-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bf16_values [hPre_bf16_values : Cert.Pre_bf16_values.Facts] (m : (ℓ : Loc Cert.KernelIdeal.nD Cert.KernelIdeal.τ Cert.KernelIdeal.sig) → Buf (Elt Ideal) ℓ) : Prop :=
  ∀ c : Dev Cert.KernelIdeal.nD,
    (Cert.Pre_bf16_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bf16_values [hPre_bf16_values : Cert.Pre_bf16_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bf16_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bf16_values [hKernelIdeal : Cert.KernelIdeal.Facts] [hPre_bf16_values : Cert.Pre_bf16_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bf16_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bf16_values [hReferenceIdeal : Cert.ReferenceIdeal.Facts] [hPre_bf16_values : Cert.Pre_bf16_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bf16_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_bf16_values [hKernelIdeal : Cert.KernelIdeal.Facts] [hReferenceIdeal : Cert.ReferenceIdeal.Facts] [hPre_bf16_values : Cert.Pre_bf16_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bf16_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_bf16_values : Cert.Pre_bf16_values.Facts),
    quiescent_Kernel (hKernel := hKernel)
    ∧ quiescent_KernelIdeal (hKernelIdeal := hKernelIdeal)
    ∧ quiescent_KernelIdeal_pre_bf16_values (hKernelIdeal := hKernelIdeal) (hPre_bf16_values := hPre_bf16_values)
    ∧ quiescent_ReferenceIdeal (hReferenceIdeal := hReferenceIdeal)
    ∧ quiescent_ReferenceIdeal_pre_bf16_values (hReferenceIdeal := hReferenceIdeal) (hPre_bf16_values := hPre_bf16_values)
    ∧ preserves_Kernel_KernelIdeal
    ∧ algebraic_KernelIdeal_ReferenceIdeal_pre_bf16_values (hKernelIdeal := hKernelIdeal) (hReferenceIdeal := hReferenceIdeal) (hPre_bf16_values := hPre_bf16_values)
-- ==== Pre_bf16_values.lean ====
abbrev S6x256x1152 : Shape := ⟨3, ![6, 256, 1152]⟩
abbrev S6x256x4352 : Shape := ⟨3, ![6, 256, 4352]⟩
abbrev S_ : Shape := ⟨0, ![]⟩

class Facts : Prop where
  bcast_S_S6x256x1152 : S_.BroadcastsInDim S6x256x1152 (![] : Fin 0 → Fin S6x256x1152.rank)
  reducesTo_S6x256x1152_S_d0_1_2 : S6x256x1152.ReducesTo [0, 1, 2] S_
  h_S_ : 0 < S_.numel
  bcast_S_S6x256x4352 : S_.BroadcastsInDim S6x256x4352 (![] : Fin 0 → Fin S6x256x4352.rank)
  reducesTo_S6x256x4352_S_d0_1_2 : S6x256x4352.ReducesTo [0, 1, 2] S_

variable [Facts]

def fn {F : FTy → Type} [FloatOps F] (main_arg0 : FVec F S6x256x1152 .bf16) (main_arg1 : FVec F S6x256x4352 .bf16) : IVec S_ 1 :=
  let main_v0 : FVec F S6x256x1152 .bf16 := Host.absf main_arg0
  let main_v1 : FVec F S6x256x4352 .bf16 := Host.absf main_arg1
  let main_cst : FVec F S_ .bf16 := constant S_ .bf16 0x7F7F#16
  let main_v2 : FVec F S6x256x1152 .bf16 := broadcastInDim S6x256x1152 ![] bcast_S_S6x256x1152 main_cst
  let main_v3 : IVec S6x256x1152 1 := cmpf .ole main_v0 main_v2
  let main_cst_0 : FVec F S_ .bf16 := constant S_ .bf16 0x7F80#16
  let main_v4 : FVec F S6x256x1152 .bf16 := broadcastInDim S6x256x1152 ![] bcast_S_S6x256x1152 main_cst_0
  let main_v5 : IVec S6x256x1152 1 := cmpf .oeq main_v0 main_v4
  let main_v6 : IVec S6x256x1152 1 := ori main_v3 main_v5
  let main_c : IVec S_ 1 := constantI S_ 1 1#1
  let main_v7 : IVec S_ 1 := (fun x v => Host.reduce IntOp.andi x v reducesTo_S6x256x1152_S_d0_1_2 h_S_) main_v6 main_c
  let main_cst_1 : FVec F S_ .bf16 := constant S_ .bf16 0x7F7F#16
  let main_v8 : FVec F S6x256x4352 .bf16 := broadcastInDim S6x256x4352 ![] bcast_S_S6x256x4352 main_cst_1
  let main_v9 : IVec S6x256x4352 1 := cmpf .ole main_v1 main_v8
  let main_cst_2 : FVec F S_ .bf16 := constant S_ .bf16 0x7F80#16
  let main_v10 : FVec F S6x256x4352 .bf16 := broadcastInDim S6x256x4352 ![] bcast_S_S6x256x4352 main_cst_2
  let main_v11 : IVec S6x256x4352 1 := cmpf .oeq main_v1 main_v10
  let main_v12 : IVec S6x256x4352 1 := ori main_v9 main_v11
  let main_c_3 : IVec S_ 1 := constantI S_ 1 1#1
  let main_v13 : IVec S_ 1 := (fun x v => Host.reduce IntOp.andi x v reducesTo_S6x256x4352_S_d0_1_2 h_S_) main_v12 main_c_3
  let main_v14 : IVec S_ 1 := andi main_v7 main_v13
  main_v14
-- ==== Kernel.lean ====
abbrev S6x256x1152 : Shape := ⟨3, ![6, 256, 1152]⟩
abbrev S6x256x4352 : Shape := ⟨3, ![6, 256, 4352]⟩
abbrev S4352x1152 : Shape := ⟨2, ![4352, 1152]⟩
abbrev S6x2x1152 : Shape := ⟨3, ![6, 2, 1152]⟩
abbrev S6x2x4352 : Shape := ⟨3, ![6, 2, 4352]⟩
abbrev S6x256x256 : Shape := ⟨3, ![6, 256, 256]⟩
abbrev S256x1152 : Shape := ⟨2, ![256, 1152]⟩
abbrev S6x2x256 : Shape := ⟨3, ![6, 2, 256]⟩
abbrev S1536x1152 : Shape := ⟨2, ![1536, 1152]⟩
abbrev S1536x256 : Shape := ⟨2, ![1536, 256]⟩
abbrev S1x128x1152 : Shape := ⟨3, ![1, 128, 1152]⟩
abbrev S128x1152 : Shape := ⟨2, ![128, 1152]⟩
abbrev S1152 : Shape := ⟨1, ![1152]⟩
abbrev S1x1152 : Shape := ⟨2, ![1, 1152]⟩
abbrev S255x1 : Shape := ⟨2, ![255, 1]⟩
abbrev S255x1152 : Shape := ⟨2, ![255, 1152]⟩
abbrev S1x1x1152 : Shape := ⟨3, ![1, 1, 1152]⟩
abbrev S1x128x256 : Shape := ⟨3, ![1, 128, 256]⟩
abbrev S128x256 : Shape := ⟨2, ![128, 256]⟩
abbrev S256 : Shape := ⟨1, ![256]⟩
abbrev S1x256 : Shape := ⟨2, ![1, 256]⟩
abbrev S255x256 : Shape := ⟨2, ![255, 256]⟩
abbrev S1x1x256 : Shape := ⟨3, ![1, 1, 256]⟩

abbrev nBuf : Space → Nat
  | .hbm => 7
  | .vmem => 13
  | .smem => 0
  | _ => 0

abbrev bufTy : (tb : Table) → Fin (tcTables nBuf tb) → BufTy
  | .hbm, ⟨0, _⟩ => ⟨S6x256x1152, .bf16⟩
  | .hbm, ⟨1, _⟩ => ⟨S6x256x4352, .bf16⟩
  | .hbm, ⟨2, _⟩ => ⟨S4352x1152, .f32⟩
  | .hbm, ⟨3, _⟩ => ⟨S6x256x1152, .fp8e4m3⟩
  | .hbm, ⟨4, _⟩ => ⟨S6x2x1152, .f32⟩
  | .hbm, ⟨5, _⟩ => ⟨S6x256x4352, .fp8e4m3⟩
  | .hbm, ⟨6, _⟩ => ⟨S6x2x4352, .f32⟩
  | .local _ .vmem, ⟨0, _⟩ => ⟨S6x256x1152, .bf16⟩
  | .local _ .vmem, ⟨1, _⟩ => ⟨S6x256x256, .bf16⟩
  | .local _ .vmem, ⟨2, _⟩ => ⟨S6x256x256, .bf16⟩
  | .local _ .vmem, ⟨3, _⟩ => ⟨S256x1152, .f32⟩
  | .local _ .vmem, ⟨4, _⟩ => ⟨S256x1152, .f32⟩
  | .local _ .vmem, ⟨5, _⟩ => ⟨S6x256x1152, .fp8e4m3⟩
  | .local _ .vmem, ⟨6, _⟩ => ⟨S6x2x1152, .f32⟩
  | .local _ .vmem, ⟨7, _⟩ => ⟨S6x256x256, .fp8e4m3⟩
  | .local _ .vmem, ⟨8, _⟩ => ⟨S6x256x256, .fp8e4m3⟩
  | .local _ .vmem, ⟨9, _⟩ => ⟨S6x2x256, .f32⟩
  | .local _ .vmem, ⟨10, _⟩ => ⟨S6x2x256, .f32⟩
  | .local _ .vmem, ⟨11, _⟩ => ⟨S1536x1152, .bf16⟩
  | .local _ .vmem, ⟨12, _⟩ => ⟨S1536x256, .bf16⟩
  | _, _ => ⟨S6x256x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S6x256x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S6x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x256x1152 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x2x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6x256x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S6x2x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S6x256x1152 : Shape := ⟨3, ![6, 256, 1152]⟩
abbrev S6x256x4352 : Shape := ⟨3, ![6, 256, 4352]⟩
abbrev S4352x1152 : Shape := ⟨2, ![4352, 1152]⟩
abbrev S6x2x1152 : Shape := ⟨3, ![6, 2, 1152]⟩
abbrev S6x2x4352 : Shape := ⟨3, ![6, 2, 4352]⟩
abbrev S6x2x128x1152 : Shape := ⟨4, ![6, 2, 128, 1152]⟩
abbrev S6x2x1x1152 : Shape := ⟨4, ![6, 2, 1, 1152]⟩
abbrev S6x2x128x4352 : Shape := ⟨4, ![6, 2, 128, 4352]⟩
abbrev S6x2x1x4352 : Shape := ⟨4, ![6, 2, 1, 4352]⟩
abbrev S1536x4352 : Shape := ⟨2, ![1536, 4352]⟩
abbrev S1536x1152 : Shape := ⟨2, ![1536, 1152]⟩

abbrev nBuf : Space → Nat
  | .hbm => 7
  | .vmem => 7
  | .smem => 0
  | _ => 0

abbrev bufTy : (tb : Table) → Fin (tcTables nBuf tb) → BufTy
  | .hbm, ⟨0, _⟩ => ⟨S6x256x1152, .bf16⟩
  | .hbm, ⟨1, _⟩ => ⟨S6x256x4352, .bf16⟩
  | .hbm, ⟨2, _⟩ => ⟨S4352x1152, .f32⟩
  | .hbm, ⟨3, _⟩ => ⟨S6x256x1152, .fp8e4m3⟩
  | .hbm, ⟨4, _⟩ => ⟨S6x2x1152, .f32⟩
  | .hbm, ⟨5, _⟩ => ⟨S6x256x4352, .fp8e4m3⟩
  | .hbm, ⟨6, _⟩ => ⟨S6x2x4352, .f32⟩
  | .local _ .vmem, ⟨0, _⟩ => ⟨S6x256x1152, .bf16⟩
  | .local _ .vmem, ⟨1, _⟩ => ⟨S6x256x4352, .bf16⟩
  | .local _ .vmem, ⟨2, _⟩ => ⟨S4352x1152, .f32⟩
  | .local _ .vmem, ⟨3, _⟩ => ⟨S6x256x1152, .fp8e4m3⟩
  | .local _ .vmem, ⟨4, _⟩ => ⟨S6x2x1152, .f32⟩
  | .local _ .vmem, ⟨5, _⟩ => ⟨S6x256x4352, .fp8e4m3⟩
  | .local _ .vmem, ⟨6, _⟩ => ⟨S6x2x4352, .f32⟩
  | _, _ => ⟨S6x256x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6x256x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256x4352 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4352x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256x1152 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x2x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x256x4352 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x2x4352 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Group.lean ====
/- One group of the kernel: what it computes of 128 rows of an operand, and the arrays it builds of all twelve groups,
   as functions of the operand. Nothing here names a program: the width of the operand is a parameter. -/
module

public import Idealize.ShloMosaic.Lib.Pipeline.FrameBody
public import Idealize.ShloMosaic.Lib.Pipeline.Value
public import Idealize.ShloMosaic.Lib.Ring
public import Idealize.ShloMosaic.Lib.Writes
public import Idealize.ShloMosaic.Lib.VecWindow

@[expose] public section

noncomputable section

namespace Cert.Quant

open Idealize.ShloMosaic

variable {F : FTy → Type} [FloatOps F] {n : ℕ}

/-- The operand, `n` columns wide. -/
abbrev Arr (n : ℕ) : Shape := ⟨3, ![6, 256, n]⟩
/-- One scale for each group and column. -/
abbrev Scl (n : ℕ) : Shape := ⟨3, ![6, 2, n]⟩
/-- The rows of the operand one below the other. -/
abbrev Rows (n : ℕ) : Shape := ⟨2, ![1536, n]⟩
abbrev Blk3 (n : ℕ) : Shape := ⟨3, ![1, 128, n]⟩
abbrev Blk (n : ℕ) : Shape := ⟨2, ![128, n]⟩
abbrev Row3 (n : ℕ) : Shape := ⟨3, ![1, 1, n]⟩
abbrev Row (n : ℕ) : Shape := ⟨2, ![1, n]⟩
abbrev Lin (n : ℕ) : Shape := ⟨1, ![n]⟩
abbrev Tab (n : ℕ) : Shape := ⟨2, ![255, n]⟩

/-- What the operations of one group ask of their shapes. -/
structure Ok (n : ℕ) : Prop where
  flat : (Blk3 n).ShapeCasts (Blk n)
  redMax : (Blk n).Reduces [0] (Lin n)
  keep : (Lin n).ShapeCasts (Row n)
  wider : FTy.bits .bf16 < FTy.bits .f32
  iota : (Tab 1).Iotas .tc 32 [0]
  bcY : (Row n).Broadcasts (Tab n)
  bcK : (Tab 1).Broadcasts (Tab n)
  bit : 1 < 32
  redSum : (Tab n).Reduces [0] (Lin n)
  bcS : (Row n).Broadcasts (Blk n)
  narrow : FTy.bits .fp8e4m3 < FTy.bits .bf16
  lift : (Blk n).ShapeCasts (Blk3 n)
  liftRow : (Row n).ShapeCasts (Row3 n)
  same : (Blk n).ShapeCasts (Blk n)

/-- The group's greatest magnitude in each column, over 448. -/
def level (h : Ok n) (v : Vec F (Blk3 n) .bf16) : FVec F (Row n) .f32 :=
  mulf (extf .f32 (shapeCast (Row n)
      (multiReduction .maximumf [0] (Lin n) (absf (shapeCast (Blk n) v h.flat : FVec F (Blk n) .bf16)) 0xFF80#16 h.redMax (.inr rfl) rfl
        : FVec F (Lin n) .bf16)
      h.keep : FVec F (Row n) .bf16) h.wider)
    (broadcast (Row n) (Scalar.ofBits .f32 0x3B124925#32))

/-- How many of the 255 powers of two from 2^-126 the level reaches: the float's exponent field. -/
def field (h : Ok n) (y : FVec F (Row n) .f32) : IVec (Row n) 32 :=
  shapeCast (Row n)
    (multiReductionI .add [0] (Lin n)
      (extui 32
        (cmpf .oge (broadcastTo (Tab n) y h.bcY)
          (broadcastTo (Tab n)
            (bitcastToFloat .f32
              (shli (addi (iota .tc (Tab 1) 32 [0] h.iota) (broadcast (Tab 1) 1#32)) (broadcast (Tab 1) 23#32)) : FVec F (Tab 1) .f32)
            h.bcK))
        h.bit)
      0#32 h.redSum rfl)
    h.keep

/-- The exponent of the scale: frexp's of the level. -/
def expo (h : Ok n) (v : Vec F (Blk3 n) .bf16) : IVec (Row n) 32 :=
  select (ori (cmpi .eq (field h (level h v)) (broadcast (Row n) 0#32)) (cmpi .eq (field h (level h v)) (broadcast (Row n) 255#32)))
    (broadcast (Row n) 0#32) (subi (field h (level h v)) (broadcast (Row n) 126#32))

/-- The scale, put together from its exponent. -/
def scale (h : Ok n) (v : Vec F (Blk3 n) .bf16) : FVec F (Row n) .f32 :=
  bitcastToFloat .f32 (shli (addi (expo h v) (broadcast (Row n) 127#32)) (broadcast (Row n) 23#32))

/-- The scale's inverse, put together from its exponent. -/
def inv (h : Ok n) (v : Vec F (Blk3 n) .bf16) : FVec F (Row n) .f32 :=
  bitcastToFloat .f32 (shli (subi (broadcast (Row n) 127#32) (expo h v)) (broadcast (Row n) 23#32))

/-- The codes: the operand times the inverse, clipped to ±448. -/
def codes (h : Ok n) (v : Vec F (Blk3 n) .bf16) : FVec F (Blk n) .fp8e4m3 :=
  truncf .fp8e4m3
    (minimumf (broadcast (Blk n) (Scalar.truncf .bf16 h.wider (Scalar.ofBits .f32 0x43E00000#32)))
      (maximumf (broadcast (Blk n) (Scalar.truncf .bf16 h.wider (Scalar.ofBits .f32 0xC3E00000#32)))
        (mulf (shapeCast (Blk n) v h.flat : FVec F (Blk n) .bf16)
          (broadcastTo (Blk n) (truncf .bf16 (inv h v) h.wider) h.bcS))))
    h.narrow

/-- The codes scaled back. -/
def wide (h : Ok n) (v : Vec F (Blk3 n) .bf16) : FVec F (Blk n) .bf16 :=
  mulf (extf .bf16 (codes h v) h.narrow) (broadcastTo (Blk n) (truncf .bf16 (scale h v) h.wider) h.bcS)

/-- The three as the kernel stores them. -/
def codesOut (h : Ok n) (v : Vec F (Blk3 n) .bf16) : FVec F (Blk3 n) .fp8e4m3 := shapeCast (Blk3 n) (codes h v) h.lift
def scaleOut (h : Ok n) (v : Vec F (Blk3 n) .bf16) : FVec F (Row3 n) .f32 := shapeCast (Row3 n) (scale h v) h.liftRow
def wideOut (h : Ok n) (v : Vec F (Blk3 n) .bf16) : FVec F (Blk n) .bf16 := shapeCast (Blk n) (wide h v) h.same

/-! ## The twelve groups -/

theorem inbA (b : Fin 6) (g : Fin 2) (a : Fin 3) : (![b.val, 128 * g.val, 0] : Fin 3 → ℕ) a + (Blk3 n).size a ≤ (Arr n).size a := by
  fin_cases a
  · show b.val + 1 ≤ 6; omega
  · show 128 * g.val + 128 ≤ 256; omega
  · show 0 + n ≤ n; omega

theorem inbS (b : Fin 6) (g : Fin 2) (a : Fin 3) : (![b.val, g.val, 0] : Fin 3 → ℕ) a + (Row3 n).size a ≤ (Scl n).size a := by
  fin_cases a
  · show b.val + 1 ≤ 6; omega
  · show g.val + 1 ≤ 2; omega
  · show 0 + n ≤ n; omega

theorem inbR (b : Fin 6) (g : Fin 2) (a : Fin 2) : (![256 * b.val + 128 * g.val, 0] : Fin 2 → ℕ) a + (Blk n).size a ≤ (Rows n).size a := by
  fin_cases a
  · show 256 * b.val + 128 * g.val + 128 ≤ 1536; omega
  · show 0 + n ≤ n; omega

/-- Where group `g` of batch row `b` lies in the operand and in its codes, -/
abbrev rectA (n : ℕ) (b : Fin 6) (g : Fin 2) : Rect (Arr n) := Rect.unit (s := Arr n) ![b.val, 128 * g.val, 0] (Blk3 n).size (inbA b g)
/-- in the scales, -/
abbrev rectS (n : ℕ) (b : Fin 6) (g : Fin 2) : Rect (Scl n) := Rect.unit (s := Scl n) ![b.val, g.val, 0] (Row3 n).size (inbS b g)
/-- and in the rows. -/
abbrev rectR (n : ℕ) (b : Fin 6) (g : Fin 2) : Rect (Rows n) := Rect.unit (s := Rows n) ![256 * b.val + 128 * g.val, 0] (Blk n).size (inbR b g)

/-- Group `g` of batch row `b`. -/
def grp (x : Vec F (Arr n) .bf16) (b : Fin 6) (g : Fin 2) : Vec F (Blk3 n) .bf16 := View.ld x (rectA n b g)

/-- The group, and the place in it, of an index of the operand. -/
def inA (y : (Arr n).Idx) : (Blk3 n).Idx := fun a => match a with
  | 0 => (0 : Fin 1) | 1 => (⟨(y 1).val % 128, Nat.mod_lt _ (by decide)⟩ : Fin 128) | 2 => (y 2 : Fin n)
def grpA (y : (Arr n).Idx) : Fin 2 := ⟨(y 1).val / 128, by have : (y 1).val < 256 := (y 1).isLt; omega⟩

/-- All codes, -/
def codesAll (h : Ok n) (x : Vec F (Arr n) .bf16) : Vec F (Arr n) .fp8e4m3 := fun y => codesOut h (grp x (y 0) (grpA y)) (inA y)

def inS (y : (Scl n).Idx) : (Row3 n).Idx := fun a => match a with
  | 0 => (0 : Fin 1) | 1 => (0 : Fin 1) | 2 => (y 2 : Fin n)

/-- all scales, -/
def scalesAll (h : Ok n) (x : Vec F (Arr n) .bf16) : Vec F (Scl n) .f32 := fun y => scaleOut h (grp x (y 0) (y 1)) (inS y)

def inR (y : (Rows n).Idx) : (Blk n).Idx := fun a => match a with
  | 0 => (⟨(y 0).val % 128, Nat.mod_lt _ (by decide)⟩ : Fin 128) | 1 => (y 1 : Fin n)
def batR (y : (Rows n).Idx) : Fin 6 := ⟨(y 0).val / 256, by have : (y 0).val < 1536 := (y 0).isLt; omega⟩
def grpR (y : (Rows n).Idx) : Fin 2 := ⟨(y 0).val / 128 % 2, Nat.mod_lt _ (by decide)⟩

/-- and all rows scaled back. -/
def wideAll (h : Ok n) (x : Vec F (Arr n) .bf16) : Vec F (Rows n) .bf16 := fun y => wideOut h (grp x (batR y) (grpR y)) (inR y)

/-! ## The arrays as twelve stores leave them -/

def pieceA (h : Ok n) (u : Fin 6 → Fin 2 → Vec F (Blk3 n) .bf16) (b : Fin 6) (g : Fin 2) : View.Piece (Elt F) (Arr n) .fp8e4m3 :=
  ⟨rectA n b g, codesOut h (u b g)⟩
def pieceS (h : Ok n) (u : Fin 6 → Fin 2 → Vec F (Blk3 n) .bf16) (b : Fin 6) (g : Fin 2) : View.Piece (Elt F) (Scl n) .f32 :=
  ⟨rectS n b g, scaleOut h (u b g)⟩
def pieceR (h : Ok n) (u : Fin 6 → Fin 2 → Vec F (Blk3 n) .bf16) (b : Fin 6) (g : Fin 2) : View.Piece (Elt F) (Rows n) .bf16 :=
  ⟨rectR n b g, wideOut h (u b g)⟩

/-- A list over the groups, the last group first, as a run keeps its stores. -/
abbrev twelve {α : Type} (f : Fin 6 → Fin 2 → α) : List α :=
  [f 5 1, f 5 0, f 4 1, f 4 0, f 3 1, f 3 0, f 2 1, f 2 0, f 1 1, f 1 0, f 0 1, f 0 0]

theorem forall_twelve {α : Type} {f : Fin 6 → Fin 2 → α} {p : α → Prop} (h : ∀ b g, p (f b g)) : ∀ a ∈ twelve f, p a := by
  intro a ha
  simp only [twelve, List.mem_cons, List.not_mem_nil, or_false] at ha
  rcases ha with rfl | rfl | rfl | rfl | rfl | rfl | rfl | rfl | rfl | rfl | rfl | rfl <;> exact h _ _

theorem mem_twelve {α : Type} (f : Fin 6 → Fin 2 → α) (b : Fin 6) (g : Fin 2) : f b g ∈ twelve f := by
  fin_cases b <;> fin_cases g <;> simp [twelve]

variable {sig : RefSig} {κ : Kind} {sp : Space}

theorem read_codes (h : Ok n) (x : Vec F (Arr n) .bf16) (u : Fin 6 → Fin 2 → Vec F (Blk3 n) .bf16)
    (hu : ∀ b g, u b g = grp x b g) (v : View sig κ sp (Arr n) .fp8e4m3) (f : v.ty.Contents (Elt F)) :
    v.read (Elt F) (v.writes (Elt F) f (twelve (pieceA h u))) = codesAll h x := by
  funext y
  refine View.read_writes_apply_of_pieces v f (codesAll h x) _ (forall_twelve fun b g z => ?_) y ⟨_, mem_twelve _ (y 0) (grpA y), ?_⟩
  · have h0 : (rectA n b g).emb z 0 = b := Fin.ext (by
      have : (z 0).val < 1 := (z 0).isLt
      show b.val + 1 * (z 0).val = _; omega)
    have h1 : ((rectA n b g).emb z 1).val = 128 * g.val + (z 1).val := by show _ + 1 * (z 1).val = _; rw [Nat.one_mul]; rfl
    have hz1 : (z 1).val < 128 := (z 1).isLt
    have hg : grpA ((rectA n b g).emb z) = g := Fin.ext (by show ((rectA n b g).emb z 1).val / 128 = _; rw [h1]; omega)
    have hi : inA ((rectA n b g).emb z) = z := by
      funext a; apply Fin.ext; fin_cases a
      · have : (z 0).val < 1 := (z 0).isLt
        show 0 = (z 0).val; omega
      · show ((rectA n b g).emb z 1).val % 128 = (z 1).val; rw [h1]; omega
      · show 0 + 1 * (z 2).val = (z 2).val; omega
    show codesOut h (u b g) z = codesOut h (grp x ((rectA n b g).emb z 0) (grpA ((rectA n b g).emb z))) (inA ((rectA n b g).emb z))
    rw [hu, h0, hg, hi]
  · refine (Rect.mem_set_unit (inb := inbA (y 0) (grpA y))).mpr fun a => ?_
    fin_cases a
    · show (y 0).val ≤ (y 0).val ∧ (y 0).val < (y 0).val + 1; omega
    · show 128 * ((y 1).val / 128) ≤ (y 1).val ∧ (y 1).val < 128 * ((y 1).val / 128) + 128; omega
    · have : (y 2).val < n := (y 2).isLt
      show 0 ≤ (y 2).val ∧ (y 2).val < 0 + n; omega

theorem read_scales (h : Ok n) (x : Vec F (Arr n) .bf16) (u : Fin 6 → Fin 2 → Vec F (Blk3 n) .bf16)
    (hu : ∀ b g, u b g = grp x b g) (v : View sig κ sp (Scl n) .f32) (f : v.ty.Contents (Elt F)) :
    v.read (Elt F) (v.writes (Elt F) f (twelve (pieceS h u))) = scalesAll h x := by
  funext y
  refine View.read_writes_apply_of_pieces v f (scalesAll h x) _ (forall_twelve fun b g z => ?_) y ⟨_, mem_twelve _ (y 0) (y 1), ?_⟩
  · have hz0 : (z 0).val < 1 := (z 0).isLt
    have hz1 : (z 1).val < 1 := (z 1).isLt
    have h0 : (rectS n b g).emb z 0 = b := Fin.ext (by show b.val + 1 * (z 0).val = _; omega)
    have h1 : (rectS n b g).emb z 1 = g := Fin.ext (by show g.val + 1 * (z 1).val = _; omega)
    have hi : inS ((rectS n b g).emb z) = z := by
      funext a; apply Fin.ext; fin_cases a
      · show 0 = (z 0).val; omega
      · show 0 = (z 1).val; omega
      · show 0 + 1 * (z 2).val = (z 2).val; omega
    show scaleOut h (u b g) z = scaleOut h (grp x ((rectS n b g).emb z 0) ((rectS n b g).emb z 1)) (inS ((rectS n b g).emb z))
    rw [hu, h0, h1, hi]
  · refine (Rect.mem_set_unit (inb := inbS (y 0) (y 1))).mpr fun a => ?_
    fin_cases a
    · show (y 0).val ≤ (y 0).val ∧ (y 0).val < (y 0).val + 1; omega
    · show (y 1).val ≤ (y 1).val ∧ (y 1).val < (y 1).val + 1; omega
    · have : (y 2).val < n := (y 2).isLt
      show 0 ≤ (y 2).val ∧ (y 2).val < 0 + n; omega

theorem read_wide (h : Ok n) (x : Vec F (Arr n) .bf16) (u : Fin 6 → Fin 2 → Vec F (Blk3 n) .bf16)
    (hu : ∀ b g, u b g = grp x b g) (v : View sig κ sp (Rows n) .bf16) (f : v.ty.Contents (Elt F)) :
    v.read (Elt F) (v.writes (Elt F) f (twelve (pieceR h u))) = wideAll h x := by
  funext y
  refine View.read_writes_apply_of_pieces v f (wideAll h x) _ (forall_twelve fun b g z => ?_) y ⟨_, mem_twelve _ (batR y) (grpR y), ?_⟩
  · have h0 : ((rectR n b g).emb z 0).val = 256 * b.val + 128 * g.val + (z 0).val := by show _ + 1 * (z 0).val = _; rw [Nat.one_mul]; rfl
    have hz0 : (z 0).val < 128 := (z 0).isLt
    have hb : batR ((rectR n b g).emb z) = b := Fin.ext (by show ((rectR n b g).emb z 0).val / 256 = _; rw [h0]; omega)
    have hg : grpR ((rectR n b g).emb z) = g := Fin.ext (by show ((rectR n b g).emb z 0).val / 128 % 2 = _; rw [h0]; omega)
    have hi : inR ((rectR n b g).emb z) = z := by
      funext a; apply Fin.ext; fin_cases a
      · show ((rectR n b g).emb z 0).val % 128 = (z 0).val; rw [h0]; omega
      · show 0 + 1 * (z 1).val = (z 1).val; omega
    show wideOut h (u b g) z = wideOut h (grp x (batR ((rectR n b g).emb z)) (grpR ((rectR n b g).emb z))) (inR ((rectR n b g).emb z))
    rw [hu, hb, hg, hi]
  · refine (Rect.mem_set_unit (inb := inbR (batR y) (grpR y))).mpr fun a => ?_
    fin_cases a
    · show 256 * ((y 0).val / 256) + 128 * ((y 0).val / 128 % 2) ≤ (y 0).val
        ∧ (y 0).val < 256 * ((y 0).val / 256) + 128 * ((y 0).val / 128 % 2) + 128; omega
    · have : (y 1).val < n := (y 1).isLt
      show 0 ≤ (y 1).val ∧ (y 1).val < 0 + n; omega

end Cert.Quant

end
-- ==== Proof.KernelBody.lean ====
/- The kernel body's run: what its two cases share. -/
module

public import proofs.«01_k».proof.Proof.Gen.KernelIdeal.Frame
public import proofs.«01_k».proof.Proof.Gen.KernelIdeal.Skeleton
public import proofs.«01_k».proof.Proof.Group

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Quant

variable {F : FTy → Type} [FloatOps F]

local notation "𝕄" => MT nD τ sig Unit (Elt F) ℕ (UR sig nD τ) ℕ

/-- The shapes of a group of dy's block, -/
theorem okY : Ok 256 where
  flat := shapeCasts_S1x128x256_S128x256
  redMax := reduces_S128x256_S256
  keep := shapeCasts_S256_S1x256
  wider := bitsLt_bf16_f32
  iota := iota_S255x1_d0_w32
  bcY := broadcasts_S1x256_S255x256
  bcK := broadcasts_S255x1_S255x256
  bit := natLt_1_32
  redSum := reduces_S255x256_S256
  bcS := broadcasts_S1x256_S128x256
  narrow := bitsLt_fp8e4m3_bf16
  lift := shapeCasts_S128x256_S1x128x256
  liftRow := shapeCasts_S1x256_S1x1x256
  same := shapeCasts_S128x256_S128x256

/-- and of x. -/
theorem okX : Ok 1152 where
  flat := shapeCasts_S1x128x1152_S128x1152
  redMax := reduces_S128x1152_S1152
  keep := shapeCasts_S1152_S1x1152
  wider := bitsLt_bf16_f32
  iota := iota_S255x1_d0_w32
  bcY := broadcasts_S1x1152_S255x1152
  bcK := broadcasts_S255x1_S255x1152
  bit := natLt_1_32
  redSum := reduces_S255x1152_S1152
  bcS := broadcasts_S1x1152_S128x1152
  narrow := bitsLt_fp8e4m3_bf16
  lift := shapeCasts_S128x1152_S1x128x1152
  liftRow := shapeCasts_S1x1152_S1x1x1152
  same := shapeCasts_S128x1152_S128x1152

/-- The condition of the body's one branch, from the grid coordinate. -/
abbrev first (i : grid0.Coords) : Prop := k0_cond1 i = 1#1

/-- It holds at the first point only. -/
theorem first_iff : ∀ t : Fin cfg0.N, first (grid0.coords t) ↔ t.val = 0 :=
  (fun t => by
    have ht : t.val < 17 := Nat.lt_of_lt_of_eq t.isLt N_0
    have e0 : (grid0.coords t 0).val = t.val / 1 % 17 := Pipeline.Grid.coords_val t 0 (by decide) rfl
    rw [show t.val = 0 ↔ t.val % 17 = 0 by omega]
    simp only [first, k0_cond1, e0]
    word_cmp
   : ∀ t : Fin grid0.N, first (grid0.coords t) ↔ t.val = 0)

/-- The block of the product that the point's rows of dy make with x's rows. -/
def dwBlock (x0 : Vec F S6x256x1152 .bf16) (x1 : Vec F S6x256x256 .bf16) : Vec F S256x1152 .f32 :=
  k0_pay4 (wideAll okY x1) (wideAll okX x0)

end Cert.KernelIdeal.Run

end
-- ==== Proof.KernelRunA.lean ====
/- The body at the first point, which quantizes x as well. -/
module

public import proofs.«01_k».proof.Proof.KernelBody

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Quant

variable {F : FTy → Type} [FloatOps F]

local notation "𝕄" => MT nD τ sig Unit (Elt F) ℕ (UR sig nD τ) ℕ

set_option maxHeartbeats 3000000 in
/-- The body at the first point. -/
theorem runA (c : Dev nD) (i : grid0.Coords) (arg1 : Memref sig .tc .vmem S6x256x1152 .bf16) (harg1 : arg1.IsWhole) (arg2 : Memref sig .tc .vmem S6x256x256 .bf16) (harg2 : arg2.IsWhole) (arg3 : Memref sig .tc .vmem S256x1152 .f32) (harg3 : arg3.IsWhole) (arg4 : Memref sig .tc .vmem S6x256x1152 .fp8e4m3) (harg4 : arg4.IsWhole) (arg5 : Memref sig .tc .vmem S6x2x1152 .f32) (harg5 : arg5.IsWhole) (arg6 : Memref sig .tc .vmem S6x256x256 .fp8e4m3) (harg6 : arg6.IsWhole) (arg7 : Memref sig .tc .vmem S6x2x256 .f32) (harg7 : arg7.IsWhole) (arg8 : Memref sig .tc .vmem S1536x1152 .bf16) (harg8 : arg8.IsWhole) (arg9 : Memref sig .tc .vmem S1536x256 .bf16) (harg9 : arg9.IsWhole) (hc0 : first i)
    (x0 : Vec F S6x256x1152 .bf16) (x1 : Vec F S6x256x256 .bf16) (E : Set ℕ) (K : PUnit → sProp 𝕄) :
    iprop(owns (c : Thread nD τ) arg1 fullShare x0
        ∗ owns (c : Thread nD τ) arg2 fullShare x1
        ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (iprop(owns (c : Thread nD τ) arg1 fullShare x0
            ∗ owns (c : Thread nD τ) arg2 fullShare x1
            ∗ owns (c : Thread nD τ) arg3 fullShare (dwBlock x0 x1)
            ∗ owns (c : Thread nD τ) arg4 fullShare (codesAll okX x0)
            ∗ owns (c : Thread nD τ) arg5 fullShare (scalesAll okX x0)
            ∗ owns (c : Thread nD τ) arg6 fullShare (codesAll okY x1)
            ∗ owns (c : Thread nD τ) arg7 fullShare (scalesAll okY x1)
            ∗ owns (c : Thread nD τ) arg8 fullShare (wideAll okX x0)
            ∗ (∃ d, owns (c : Thread nD τ) arg9 fullShare d)) -∗ K ⟨⟩))
      ⊢ wp frame (wpE (defs₀ (F := F)) Variants.none c none) E (cc0_wgrad i arg1 harg1 arg2 harg2 arg3 harg3 arg4 harg4 arg5 harg5 arg6 harg6 arg7 harg7 arg8 harg8 arg9 harg9) K := by
    simp only [cc0_wgrad_eq_skeleton]; unfold cc0_wgrad_skel
    simp only [k0_part19_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1
    sl_exec (disch := first | sl_exact hc0)
    sl_step
    have hldY : ∀ b g, View.readAt (Elt F) arg2.view (rectA 256 b g).toLoadRect (harg2.unread x1) = grp x1 b g := fun b g => by
      rw [View.readAt_eq_ld, hf1]; rfl
    have hldX : ∀ b g, View.readAt (Elt F) arg1.view (rectA 1152 b g).toLoadRect (harg1.unread x0) = grp x0 b g := fun b g => by
      rw [View.readAt_eq_ld, hf0]; rfl
    iapply Hk
    isplitl [H0]
    · iexists _; isplitr; · ipureintro; exact hf0
      iexact H0
    isplitl [H1]
    · iexists _; isplitr; · ipureintro; exact hf1
      iexact H1
    isplitl [H2]
    · iexists _; isplitr; swap; · iexact H2
      ipureintro
      refine (View.read_writes_full (s := S256x1152) arg3.view f2 _ _ _).trans ?_
      unfold dwBlock
      congr 1
      · unfold runA.sl.v747
        refine (View.readAt_full (s := S1536x256) _ _ _).trans ?_
        exact read_wide okY x1 (fun b g => View.readAt (Elt F) arg2.view (rectA 256 b g).toLoadRect (harg2.unread x1)) hldY arg9.view _
      · unfold runA.sl.v748
        refine (View.readAt_full (s := S1536x1152) _ _ _).trans ?_
        exact read_wide okX x0 (fun b g => View.readAt (Elt F) arg1.view (rectA 1152 b g).toLoadRect (harg1.unread x0)) hldX arg8.view _
    isplitl [H3]
    · iexists _; isplitr; swap; · iexact H3
      ipureintro
      exact read_codes okX x0 (fun b g => View.readAt (Elt F) arg1.view (rectA 1152 b g).toLoadRect (harg1.unread x0)) hldX arg4.view f3
    isplitl [H4]
    · iexists _; isplitr; swap; · iexact H4
      ipureintro
      exact read_scales okX x0 (fun b g => View.readAt (Elt F) arg1.view (rectA 1152 b g).toLoadRect (harg1.unread x0)) hldX arg5.view f4
    isplitl [H5]
    · iexists _; isplitr; swap; · iexact H5
      ipureintro
      exact read_codes okY x1 (fun b g => View.readAt (Elt F) arg2.view (rectA 256 b g).toLoadRect (harg2.unread x1)) hldY arg6.view f5
    isplitl [H6]
    · iexists _; isplitr; swap; · iexact H6
      ipureintro
      exact read_scales okY x1 (fun b g => View.readAt (Elt F) arg2.view (rectA 256 b g).toLoadRect (harg2.unread x1)) hldY arg7.view f6
    isplitl [HS0]
    · iexists _; isplitr; swap; · iexact HS0
      ipureintro
      exact read_wide okX x0 (fun b g => View.readAt (Elt F) arg1.view (rectA 1152 b g).toLoadRect (harg1.unread x0)) hldX arg8.view fs0
    iexists _, _; isplitr; swap; · iexact HS1
    ipureintro; rfl

end Cert.KernelIdeal.Run

end
-- ==== Proof.KernelRunB.lean ====
/- The body at the points after the first: x's codes and scales stand, and its rows are in the scratch. -/
module

public import proofs.«01_k».proof.Proof.KernelBody

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Quant

variable {F : FTy → Type} [FloatOps F]

local notation "𝕄" => MT nD τ sig Unit (Elt F) ℕ (UR sig nD τ) ℕ

set_option maxHeartbeats 3000000 in
/-- The body at a point after the first. -/
theorem runB (c : Dev nD) (i : grid0.Coords) (arg1 : Memref sig .tc .vmem S6x256x1152 .bf16) (harg1 : arg1.IsWhole) (arg2 : Memref sig .tc .vmem S6x256x256 .bf16) (harg2 : arg2.IsWhole) (arg3 : Memref sig .tc .vmem S256x1152 .f32) (harg3 : arg3.IsWhole) (arg4 : Memref sig .tc .vmem S6x256x1152 .fp8e4m3) (harg4 : arg4.IsWhole) (arg5 : Memref sig .tc .vmem S6x2x1152 .f32) (harg5 : arg5.IsWhole) (arg6 : Memref sig .tc .vmem S6x256x256 .fp8e4m3) (harg6 : arg6.IsWhole) (arg7 : Memref sig .tc .vmem S6x2x256 .f32) (harg7 : arg7.IsWhole) (arg8 : Memref sig .tc .vmem S1536x1152 .bf16) (harg8 : arg8.IsWhole) (arg9 : Memref sig .tc .vmem S1536x256 .bf16) (harg9 : arg9.IsWhole) (hc0 : ¬first i)
    (x0 : Vec F S6x256x1152 .bf16) (x1 : Vec F S6x256x256 .bf16) (x3 : Vec F S6x256x1152 .fp8e4m3) (x4 : Vec F S6x2x1152 .f32) (E : Set ℕ) (K : PUnit → sProp 𝕄) :
    iprop(owns (c : Thread nD τ) arg1 fullShare x0
        ∗ owns (c : Thread nD τ) arg2 fullShare x1
        ∗ (∃ d, owns (c : Thread nD τ) arg3 fullShare d)
        ∗ owns (c : Thread nD τ) arg4 fullShare x3
        ∗ owns (c : Thread nD τ) arg5 fullShare x4
        ∗ (∃ d, owns (c : Thread nD τ) arg6 fullShare d)
        ∗ (∃ d, owns (c : Thread nD τ) arg7 fullShare d)
        ∗ owns (c : Thread nD τ) arg8 fullShare (wideAll okX x0)
        ∗ (∃ d, owns (c : Thread nD τ) arg9 fullShare d)
        ∗ (iprop(owns (c : Thread nD τ) arg1 fullShare x0
            ∗ owns (c : Thread nD τ) arg2 fullShare x1
            ∗ owns (c : Thread nD τ) arg3 fullShare (dwBlock x0 x1)
            ∗ owns (c : Thread nD τ) arg4 fullShare x3
            ∗ owns (c : Thread nD τ) arg5 fullShare x4
            ∗ owns (c : Thread nD τ) arg6 fullShare (codesAll okY x1)
            ∗ owns (c : Thread nD τ) arg7 fullShare (scalesAll okY x1)
            ∗ owns (c : Thread nD τ) arg8 fullShare (wideAll okX x0)
            ∗ (∃ d, owns (c : Thread nD τ) arg9 fullShare d)) -∗ K ⟨⟩))
      ⊢ wp frame (wpE (defs₀ (F := F)) Variants.none c none) E (cc0_wgrad i arg1 harg1 arg2 harg2 arg3 harg3 arg4 harg4 arg5 harg5 arg6 harg6 arg7 harg7 arg8 harg8 arg9 harg9) K := by
    simp only [cc0_wgrad_eq_skeleton]; unfold cc0_wgrad_skel
    simp only [k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f0, %hf0, H0⟩, ⟨%f1, %hf1, H1⟩, ⟨%d2, %f2, -, H2⟩, ⟨%f3, %hf3, H3⟩, ⟨%f4, %hf4, H4⟩, ⟨%d5, %f5, -, H5⟩, ⟨%d6, %f6, -, H6⟩, ⟨%fs0, %hfs0, HS0⟩, ⟨%ds1, %fs1, -, HS1⟩, Hk⟩
    obtain rfl := harg1.eq_unread hf0; obtain rfl := harg2.eq_unread hf1
    obtain rfl := harg8.eq_unread hfs0
    sl_exec (disch := first | sl_exact hc0)
    sl_step
    have hld : ∀ b g, View.readAt (Elt F) arg2.view (rectA 256 b g).toLoadRect (harg2.unread x1) = grp x1 b g := fun b g => by
      rw [View.readAt_eq_ld, hf1]; rfl
    iapply Hk
    isplitl [H0]
    · iexists _; isplitr; · ipureintro; exact hf0
      iexact H0
    isplitl [H1]
    · iexists _; isplitr; · ipureintro; exact hf1
      iexact H1
    isplitl [H2]
    · iexists _; isplitr; swap; · iexact H2
      ipureintro
      refine (View.read_writes_full (s := S256x1152) arg3.view f2 _ _ _).trans ?_
      unfold dwBlock
      congr 1
      · unfold runB.sl.v747
        refine (View.readAt_full (s := S1536x256) _ _ _).trans ?_
        exact read_wide okY x1 (fun b g => View.readAt (Elt F) arg2.view (rectA 256 b g).toLoadRect (harg2.unread x1)) hld arg9.view _
      · exact (View.readAt_full (s := S1536x1152) _ _ _).trans hfs0
    isplitl [H3]
    · iexists _; isplitr; · ipureintro; exact hf3
      iexact H3
    isplitl [H4]
    · iexists _; isplitr; · ipureintro; exact hf4
      iexact H4
    isplitl [H5]
    · iexists _; isplitr; swap; · iexact H5
      ipureintro
      exact read_codes okY x1 (fun b g => View.readAt (Elt F) arg2.view (rectA 256 b g).toLoadRect (harg2.unread x1)) hld arg6.view f5
    isplitl [H6]
    · iexists _; isplitr; swap; · iexact H6
      ipureintro
      exact read_scales okY x1 (fun b g => View.readAt (Elt F) arg2.view (rectA 256 b g).toLoadRect (harg2.unread x1)) hld arg7.view f6
    isplitl [HS0]
    · iexists _; isplitr; · ipureintro; exact hfs0
      iexact HS0
    iexists _, _; isplitr; swap; · iexact HS1
    ipureintro; rfl

end Cert.KernelIdeal.Run

end
-- ==== Proof.KernelRun.lean ====
/- The kernel's run: what every result array holds at the end, at any values, and the frame. -/
module

public import proofs.«01_k».proof.Proof.KernelRunA
public import proofs.«01_k».proof.Proof.KernelRunB
public import Idealize.ShloMosaic.Lib.Pipeline.TableIdle
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Quant

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s staging buffer at a point. -/
abbrev st0 (t : Fin cfg0.N) : Memref sig .tc .vmem S6x256x1152 .bf16 := win0_0.stage (cfg0.slots t 0)
abbrev st1 (t : Fin cfg0.N) : Memref sig .tc .vmem S6x256x256 .bf16 := win0_1.stage (cfg0.slots t 1)
abbrev st2 (t : Fin cfg0.N) : Memref sig .tc .vmem S256x1152 .f32 := win0_2.stage (cfg0.slots t 2)
abbrev st3 (t : Fin cfg0.N) : Memref sig .tc .vmem S6x256x1152 .fp8e4m3 := win0_3.stage (cfg0.slots t 3)
abbrev st4 (t : Fin cfg0.N) : Memref sig .tc .vmem S6x2x1152 .f32 := win0_4.stage (cfg0.slots t 4)
abbrev st5 (t : Fin cfg0.N) : Memref sig .tc .vmem S6x256x256 .fp8e4m3 := win0_5.stage (cfg0.slots t 5)
abbrev st6 (t : Fin cfg0.N) : Memref sig .tc .vmem S6x2x256 .f32 := win0_6.stage (cfg0.slots t 6)

/-- The scratch for x's rows, and for a block of dy's. -/
abbrev scX : Memref sig .tc .vmem S1536x1152 .bf16 := Memref.whole cc0_scratch0
abbrev scY : Memref sig .tc .vmem S1536x256 .bf16 := Memref.whole cc0_scratch1

/-- x's block is the same at every point: the whole of x. -/
theorem iblk0_eq (c : Dev nD) (t t' : Fin cfg0.N) : iblk m c 0 t = iblk m c 0 t' := rfl

/-- x, as the staged block. -/
def xBlk (c : Dev nD) : Vec F S6x256x1152 .bf16 := iblk m c 0 ⟨0, by decide⟩

theorem xBlk_eq (c : Dev nD) (t : Fin cfg0.N) : iblk m c 0 t = xBlk m c := rfl

/-- What is carried from point to point: at first nothing, then x's rows in their scratch. -/
def PhiS (c : Dev nD) (n : ℕ) (_ : n ≤ cfg0.N) : sProp 𝕄 :=
  if n = 0 then Pipeline.ΦA spec0 c
  else iprop(iprop(owns (c : Thread nD τ) scX fullShare (wideAll okX (xBlk m c)) ∗ (∃ d, owns (c : Thread nD τ) scY fullShare d)) ∗ (∃ r, prngReg c r))

theorem PhiA_eq (c : Dev nD) :
    (Pipeline.ΦA spec0 c : sProp 𝕄)
      = iprop(iprop((∃ d, owns (c : Thread nD τ) scX fullShare d) ∗ (∃ d, owns (c : Thread nD τ) scY fullShare d)) ∗ (∃ r, prngReg c r)) := by
  unfold Pipeline.ΦA; rw [scopedRest0_eq]; simp only [scX, scY, owns_whole]; try rfl

/-- What the body leaves at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => dwBlock (xBlk m c) (iblk m c 1 t)
    | ⟨3, _⟩ => codesAll okX (xBlk m c)
    | ⟨4, _⟩ => scalesAll okX (xBlk m c)
    | ⟨5, _⟩ => codesAll okY (iblk m c 1 t)
    | ⟨6, _⟩ => scalesAll okY (iblk m c 1 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = dwBlock (xBlk m c) (iblk m c 1 t) := by dsimp only [dats]
theorem after3 (c : Dev nD) (t : Fin cfg0.N) : (dats m 0 c).after 3 t = codesAll okX (xBlk m c) := by dsimp only [dats]
theorem after4 (c : Dev nD) (t : Fin cfg0.N) : (dats m 0 c).after 4 t = scalesAll okX (xBlk m c) := by dsimp only [dats]
theorem after5 (c : Dev nD) (t : Fin cfg0.N) : (dats m 0 c).after 5 t = codesAll okY (iblk m c 1 t) := by dsimp only [dats]
theorem after6 (c : Dev nD) (t : Fin cfg0.N) : (dats m 0 c).after 6 t = scalesAll okY (iblk m c 1 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- Windows 3 and 4, stored into at the first point only: idle at the others, -/
theorem idle3 (t : Fin cfg0.N) (h : t.val ≠ 0) : cfg0.idle 3 (grid0.coords t) = true := by
  have : ¬ first (grid0.coords t) := fun h' => h ((first_iff t).mp h')
  show (!(k0_cond1 (grid0.coords t) == 1#1)) = true
  simpa using this
theorem idle4 (t : Fin cfg0.N) (h : t.val ≠ 0) : cfg0.idle 4 (grid0.coords t) = true := idle3 t h
theorem live3 (t : Fin cfg0.N) (h : t.val = 0) : cfg0.idle 3 (grid0.coords t) = false := by
  have : first (grid0.coords t) := (first_iff t).mpr h
  show (!(k0_cond1 (grid0.coords t) == 1#1)) = false
  simpa using this
theorem live4 (t : Fin cfg0.N) (h : t.val = 0) : cfg0.idle 4 (grid0.coords t) = false := live3 t h

/-- and holding what the first point left. -/
theorem fresh3 : ∀ (n : ℕ), n < 16 → cfg0.fresh 3 (n + 1) = false
  | 0, h => by
    have hN : 0 < cfg0.N := by rw [show cfg0.N = 17 from N_0]; omega
    have hf : (cfg0.win 3).flush ⟨0, hN⟩ = false := by
      rw [← Bool.not_eq_true, flush0_3]; show ¬ 0 % 17 = 16; omega
    rw [Pipeline.Cfg.fresh_succ cfg0 3 0 hN, hf, live3 _ rfl]; rfl
  | n + 1, h => by
    have hN : n + 1 < cfg0.N := by rw [show cfg0.N = 17 from N_0]; omega
    have hf : (cfg0.win 3).flush ⟨n + 1, hN⟩ = false := by
      rw [← Bool.not_eq_true, flush0_3]; show ¬ (n + 1) % 17 = 16; omega
    rw [Pipeline.Cfg.fresh_succ cfg0 3 (n + 1) hN, hf, fresh3 n (by omega), Bool.and_false]; rfl
theorem fresh4 : ∀ (n : ℕ), n < 16 → cfg0.fresh 4 (n + 1) = false
  | 0, h => by
    have hN : 0 < cfg0.N := by rw [show cfg0.N = 17 from N_0]; omega
    have hf : (cfg0.win 4).flush ⟨0, hN⟩ = false := by
      rw [← Bool.not_eq_true, flush0_4]; show ¬ 0 % 17 = 16; omega
    rw [Pipeline.Cfg.fresh_succ cfg0 4 0 hN, hf, live4 _ rfl]; rfl
  | n + 1, h => by
    have hN : n + 1 < cfg0.N := by rw [show cfg0.N = 17 from N_0]; omega
    have hf : (cfg0.win 4).flush ⟨n + 1, hN⟩ = false := by
      rw [← Bool.not_eq_true, flush0_4]; show ¬ (n + 1) % 17 = 16; omega
    rw [Pipeline.Cfg.fresh_succ cfg0 4 (n + 1) hN, hf, fresh4 n (by omega), Bool.and_false]; rfl

theorem before3 (c : Dev nD) (t : Fin cfg0.N) (h : t.val ≠ 0) (d) : (dats m 0 c).before 3 t d = codesAll okX (xBlk m c) := by
  have hN : t.val < 17 := lt_of_lt_of_eq t.isLt (show cfg0.N = 17 from N_0)
  obtain ⟨n, hn⟩ := Nat.exists_eq_succ_of_ne_zero h
  rw [(dats m 0 c).before_out_traj 3 rfl (fun _ _ => rfl) (fun t _ _ _ => by rw [after3, after3]) t.val t rfl d,
    show cfg0.fresh 3 t.val = false by rw [hn]; exact fresh3 n (by omega), if_neg Bool.false_ne_true, after3]
theorem before4 (c : Dev nD) (t : Fin cfg0.N) (h : t.val ≠ 0) (d) : (dats m 0 c).before 4 t d = scalesAll okX (xBlk m c) := by
  have hN : t.val < 17 := lt_of_lt_of_eq t.isLt (show cfg0.N = 17 from N_0)
  obtain ⟨n, hn⟩ := Nat.exists_eq_succ_of_ne_zero h
  rw [(dats m 0 c).before_out_traj 4 rfl (fun _ _ => rfl) (fun t _ _ _ => by rw [after4, after4]) t.val t rfl d,
    show cfg0.fresh 4 t.val = false by rw [hn]; exact fresh4 n (by omega), if_neg Bool.false_ne_true, after4]

/-- A window left at its `after` whatever its idle points are, if what it finds is that too. -/
theorem leaves_of_after (c : Dev nD) (w : Fin cfg0.W) (t : Fin cfg0.N)
    (h : cfg0.idle w (grid0.coords t) = true → ∀ d, (dats m 0 c).before w t d = (dats m 0 c).after w t) :
    (owns (c : Thread nD τ) ((cfg0.win w).stage (cfg0.slots t w)) fullShare ((dats m 0 c).after w t) : sProp 𝕄)
      ⊢ (dats m 0 c).leavesExact w t := by
  unfold Dat.leavesExact
  cases hi : cfg0.idle w (cfg0.grid.coords t)
  · exact .rfl
  · cases hf : (cfg0.win w).flush t
    · simp only [h hi]
      iintro H
      iexists (fun _ => Classical.arbitrary _)
      iexact H
    · exact .rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem Phi_succ (c : Dev nD) (t : Fin cfg0.N) : (dats m 0 c).Φ t.succ
    = iprop(iprop(owns (c : Thread nD τ) scX fullShare (wideAll okX (xBlk m c)) ∗ (∃ d, owns (c : Thread nD τ) scY fullShare d)) ∗ (∃ r, prngReg c r)) := by
  dsimp only [dats]
  exact if_neg (Nat.succ_ne_zero t.val)

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem Phi_zero (c : Dev nD) : (dats m 0 c).Φ 0 = Pipeline.ΦA spec0 c := by
  dsimp only [dats]; exact if_pos rfl

theorem Phi_last (c : Dev nD) : (dats m 0 c).Φ (Fin.last cfg0.N)
    = iprop(iprop(owns (c : Thread nD τ) scX fullShare (wideAll okX (xBlk m c)) ∗ (∃ d, owns (c : Thread nD τ) scY fullShare d)) ∗ (∃ r, prngReg c r)) := by
  dsimp only [dats]
  exact if_neg (show ¬ cfg0.N = 0 by rw [show cfg0.N = 17 from N_0]; decide)

theorem leaves_eq (c : Dev nD) (w : Fin cfg0.W) (t : Fin cfg0.N) (h : cfg0.idle w (grid0.coords t) = false) :
    (dats m 0 c).leavesExact w t = (owns (c : Thread nD τ) ((cfg0.win w).stage (cfg0.slots t w)) fullShare ((dats m 0 c).after w t) : sProp 𝕄) := by
  unfold Dat.leavesExact; rw [show cfg0.idle w (cfg0.grid.coords t) = false from h]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl, Phi_succ, Phi_castSucc]
  rw [leaves_eq m c 0 t rfl, leaves_eq m c 1 t rfl, leaves_eq m c 2 t rfl, leaves_eq m c 5 t rfl, leaves_eq m c 6 t rfl,
    after0, after1, after2, after5, after6, xBlk_eq m c t]
  by_cases h0 : t.val = 0
  · rw [leaves_eq m c 3 t (live3 t h0), leaves_eq m c 4 t (live4 t h0), after3, after4]
    rw [show PhiS m c t.val (Nat.le_of_lt t.isLt) = _ from if_pos h0, PhiA_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ _ _ _ _ (first_iff t |>.mpr h0) (iblk m c 0 t) (iblk m c 1 t) Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [before3 m c t h0, before4 m c t h0]
    rw [show PhiS m c t.val (Nat.le_of_lt t.isLt) = _ from if_neg h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (runB c (grid0.coords t) _ _ _ _ _ _ _ _ _ _ _ _ _ _ _ _ _ _ (fun h => h0 ((first_iff t).mp h)) (iblk m c 0 t) (iblk m c 1 t) (codesAll okX (iblk m c 0 t)) (scalesAll okX (iblk m c 0 t)) Set.univ _)
    isplitl [H0]; · iexact H0
    isplitl [H1]; · iexact H1
    isplitl [H2]; · iexists _; iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]
    · iapply (leaves_of_after m c 3 t fun _ d => (before3 m c t h0 d).trans (after3 m c t).symm)
      rw [after3]; iexact H3
    isplitl [H4]
    · iapply (leaves_of_after m c 4 t fun _ d => (before4 m c t h0 d).trans (after4 m c t).symm)
      rw [after4]; iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array of the pipeline ends at what the write-backs left, and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      show Pipeline.ΦA spec0 c ⊢ (dats m 0 c).Φ 0
      rw [Phi_zero])
    (hout := fun c => by
      show (dats m 0 c).Φ (Fin.last cfg0.N) ⊢ Pipeline.ΦA spec0 c
      rw [Phi_last, PhiA_eq]
      iintro ⟨⟨HX, HY⟩, Hg⟩
      isplitl [HX HY]
      · isplitl [HX]
        · iexists _; iexact HX
        iexact HY
      iexact Hg)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and the counters at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.SameKernel.lean ====
/- The kernel at the machine's own numbers and the kernel at the ideal ones are one text: the frame carries over. -/
module

public import proofs.«01_k».proof.Defs
public import proofs.«01_k».proof.Proof.Gen.Kernel
public import proofs.«01_k».proof.Proof.KernelRun

@[expose] public section

namespace Cert.Kernel.Run

open Idealize.ShloMosaic Idealize.SL.Sem

/-- The two body tables are the same: one body, read twice. -/
theorem bodies_eq : Cert.Kernel.defs₀ (F := Bits) = Cert.KernelIdeal.defs₀ (F := Bits) := by
  unfold Cert.Kernel.defs₀ Cert.KernelIdeal.defs₀
  congr 1
  funext l a
  match l, a with
  | 0, (t, s) => exact rfl

/-- So are the tables with the pipeline's own bodies. -/
theorem tables_eq : Cert.Kernel.defs (F := Bits) = Cert.KernelIdeal.defs (F := Bits) :=
  congrArg (Pipeline.defs (Cert.KernelIdeal.pcfgs (F := Bits))) bodies_eq

/-- The frame, proved of the body at any numbers, at the machine's. -/
theorem frame : Cert.quiescent_Kernel (hKernel := Cert.Kernel.Gen.facts) := fun m ρ _ => by
  rw [tables_eq]
  exact Cert.KernelIdeal.Run.frame_main (F := Bits) m ρ

end Cert.Kernel.Run
-- ==== Proof.Spec.lean ====
/- The results over the extended reals, as functions of the operands: an entry's group, its greatest magnitude, and the
   codes, scales and product that follow from it. The kernel and the reference differ only in how they turn a group's
   greatest magnitude into the scale and its inverse; both ways are written here, on one number. -/
module

public import proofs.«01_k».proof.Proof.Group
public import Idealize.ShloMosaic.Lib.Pointwise

@[expose] public section

noncomputable section

namespace Cert.Quant

open Idealize.ShloMosaic

/-! ## From a group's greatest magnitude to its scale -/

/-- The greatest magnitude over 448, the constant as the programs write it. -/
def lev (a : EReal) : EReal := a * Ideal.ofBits .f32 0x3B124925#32

/-- The kernel's exponent field: how many of 255 powers of two the level reaches. -/
def kField (y : EReal) : BitVec 32 :=
  Finset.univ.fold IntOp.addi 0#32 fun x : Fin 255 =>
    BitVec.setWidth 32 (BitVec.ofBool (decide
      (Ideal.ofBits .f32 (IntOp.shli ArithUnit.vector (IntOp.addi (BitVec.ofNat 32 x.val) 1#32) 23#32) ≤ y)))

/-- The kernel's exponent, -/
def kExpo (y : EReal) : BitVec 32 :=
  Scalar.select (IntOp.ori (IntOp.cmpi .eq (kField y) 0#32) (IntOp.cmpi .eq (kField y) 255#32)) 0#32
    (IntOp.subi (kField y) 126#32)

/-- its scale, -/
def kScale (a : EReal) : EReal := Ideal.ofBits .f32 (IntOp.shli ArithUnit.vector (IntOp.addi (kExpo (lev a)) 127#32) 23#32)
/-- and the inverse of the scale. -/
def kInv (a : EReal) : EReal := Ideal.ofBits .f32 (IntOp.shli ArithUnit.vector (IntOp.subi 127#32 (kExpo (lev a))) 23#32)

/-- The reference's exponent, -/
def rExpo (a : EReal) : EReal :=
  if a = 0 then 0
  else Scalar.select
    (IntOp.ori (BitVec.ofBool (decide (lev a < Ideal.ofBits .f32 0x00800000#32)))
      (BitVec.ofBool (decide (lev a = Ideal.ofBits .f32 0x7F800000#32))))
    0 (Ideal.liftRound Int.floor (Ideal.div (Ideal.log (lev a)) (Ideal.log (Ideal.ofBits .f32 0x40000000#32))) + 1)

/-- its scale, -/
def rScale (a : EReal) : EReal := Ideal.pow (Ideal.ofBits .f32 0x40000000#32) (rExpo a)
/-- and the inverse of the scale. -/
def rInv (a : EReal) : EReal := Ideal.pow (Ideal.ofBits .f32 0x40000000#32) (0 - rExpo a)

/-! ## The arrays -/

variable {n m : ℕ}

/-- The greatest magnitude of 128 values. -/
def peak (f : Fin 128 → EReal) : EReal := Finset.univ.fold max ⊥ fun k => max (f k) (-(f k))

/-- Column `c` of group `g` of batch row `b`. -/
def col (x : (Arr n).Idx → EReal) (b : Fin 6) (g : Fin 2) (c : Fin n) : Fin 128 → EReal :=
  fun k => x (ix3 b (⟨g.val * 128 + k.val, by omega⟩ : Fin 256) c)

/-- The group of row `s`. -/
def grpOf (s : Fin 256) : Fin 2 := ⟨s.val / 128, by omega⟩

/-- A code: the entry times the inverse scale, clipped to ±448. -/
def codeAt (inv : EReal → EReal) (x : (Arr n).Idx → EReal) (b : Fin 6) (s : Fin 256) (c : Fin n) : EReal :=
  min (Ideal.ofBits .f32 0x43E00000#32)
    (max (Ideal.ofBits .f32 0xC3E00000#32) (x (ix3 b s c) * inv (peak (col x b (grpOf s) c))))

/-- A scale. -/
def scaleAt (sc : EReal → EReal) (x : (Arr n).Idx → EReal) (b : Fin 6) (g : Fin 2) (c : Fin n) : EReal :=
  sc (peak (col x b g c))

/-- The batch row and the row in it of row `k` of all. -/
def batOf (k : Fin 1536) : Fin 6 := ⟨k.val / 256, by omega⟩
def rowOf (k : Fin 1536) : Fin 256 := ⟨k.val % 256, by omega⟩

/-- A code scaled back. -/
def wideAt (inv sc : EReal → EReal) (x : (Arr n).Idx → EReal) (k : Fin 1536) (c : Fin n) : EReal :=
  codeAt inv x (batOf k) (rowOf k) c * scaleAt sc x (batOf k) (grpOf (rowOf k)) c

/-- An entry of the product. -/
def dwAt (inv sc : EReal → EReal) (x : (Arr n).Idx → EReal) (d : (Arr m).Idx → EReal) (i : Fin m) (j : Fin n) : EReal :=
  ∑ k : Fin 1536, wideAt inv sc d k i * wideAt inv sc x k j

/-! ## A block of columns -/

/-- The columns from `o` on of an array have the array's codes, -/
theorem codeAt_block (inv : EReal → EReal) (x : (Arr n).Idx → EReal) (d : (Arr m).Idx → EReal) (f : Fin n → Fin m)
    (hx : ∀ b s c, x (ix3 b s c) = d (ix3 b s (f c))) (b : Fin 6) (s : Fin 256) (c : Fin n) :
    codeAt inv x b s c = codeAt inv d b s (f c) := by
  unfold codeAt col
  simp only [hx]

/-- its scales, -/
theorem scaleAt_block (sc : EReal → EReal) (x : (Arr n).Idx → EReal) (d : (Arr m).Idx → EReal) (f : Fin n → Fin m)
    (hx : ∀ b s c, x (ix3 b s c) = d (ix3 b s (f c))) (b : Fin 6) (g : Fin 2) (c : Fin n) :
    scaleAt sc x b g c = scaleAt sc d b g (f c) := by
  unfold scaleAt col
  simp only [hx]

/-- and its codes scaled back. -/
theorem wideAt_block (inv sc : EReal → EReal) (x : (Arr n).Idx → EReal) (d : (Arr m).Idx → EReal) (f : Fin n → Fin m)
    (hx : ∀ b s c, x (ix3 b s c) = d (ix3 b s (f c))) (k : Fin 1536) (c : Fin n) :
    wideAt inv sc x k c = wideAt inv sc d k (f c) := by
  unfold wideAt
  rw [codeAt_block inv x d f hx, scaleAt_block sc x d f hx]

/-! ## Two ways to the scale that agree -/

/-- Where two ways from a group's greatest magnitude to the inverse and the scale agree on an array's groups, the
    results agree. -/
theorem codeAt_congr {inv inv' : EReal → EReal} (x : (Arr n).Idx → EReal)
    (h : ∀ b g c, inv (peak (col x b g c)) = inv' (peak (col x b g c))) (b : Fin 6) (s : Fin 256) (c : Fin n) :
    codeAt inv x b s c = codeAt inv' x b s c := by
  unfold codeAt; rw [h]

theorem scaleAt_congr {sc sc' : EReal → EReal} (x : (Arr n).Idx → EReal)
    (h : ∀ b g c, sc (peak (col x b g c)) = sc' (peak (col x b g c))) (b : Fin 6) (g : Fin 2) (c : Fin n) :
    scaleAt sc x b g c = scaleAt sc' x b g c := h b g c

theorem dwAt_congr {inv inv' sc sc' : EReal → EReal} (x : (Arr n).Idx → EReal) (d : (Arr m).Idx → EReal)
    (hx : ∀ b g c, inv (peak (col x b g c)) = inv' (peak (col x b g c)))
    (hx' : ∀ b g c, sc (peak (col x b g c)) = sc' (peak (col x b g c)))
    (hd : ∀ b g c, inv (peak (col d b g c)) = inv' (peak (col d b g c)))
    (hd' : ∀ b g c, sc (peak (col d b g c)) = sc' (peak (col d b g c))) (i : Fin m) (j : Fin n) :
    dwAt inv sc x d i j = dwAt inv' sc' x d i j := by
  unfold dwAt wideAt
  refine Finset.sum_congr rfl fun k _ => ?_
  rw [codeAt_congr x hx, codeAt_congr d hd, scaleAt_congr x hx', scaleAt_congr d hd']

end Cert.Quant
-- ==== Proof.KernelReads.lean ====
/- The kernel's arrays over the extended reals, read at an index. -/
module

public import proofs.«01_k».proof.Proof.KernelBody
public import proofs.«01_k».proof.Proof.Spec

@[expose] public section

noncomputable section

namespace Cert.Quant

open Idealize.ShloMosaic Cert.KernelIdeal.Run

theorem neg_inf_bf16 : Ideal.ofBits .bf16 0xFF80#16 = ⊥ := by simp [Ideal.ofBits, Ideal.ieee]
theorem neg_inf_f32 : Ideal.ofBits .f32 0xFF800000#32 = ⊥ := by simp [Ideal.ofBits, Ideal.ieee]

section generic
variable {n : ℕ}

theorem grp_apply (x : Vec Ideal (Arr n) .bf16) (b : Fin 6) (g : Fin 2) (k : Fin 128) (c : Fin n) :
    grp x b g (ix3 (0 : Fin 1) k c) = col x b g c k := by
  unfold grp col View.ld
  congr 1
  funext a
  fin_cases a
  · exact Fin.ext (show b.val + 1 * 0 = b.val by omega)
  · exact Fin.ext (show 128 * g.val + 1 * k.val = g.val * 128 + k.val by omega)
  · exact Fin.ext (show 0 + 1 * c.val = c.val by omega)

end generic

/-! ## One group, 256 columns wide -/

theorem field_256 (h : Ok 256) (y : FVec Ideal (Row 256) .f32) (c : Fin 256) : field h y (ix2 (0 : Fin 1) c) = kField (y (ix2 (0 : Fin 1) c)) := by
  pointwise [field]; rfl

theorem level_256 (h : Ok 256) (v : Vec Ideal (Blk3 256) .bf16) (c : Fin 256) :
    level h v (ix2 (0 : Fin 1) c) = lev (peak fun k => v (ix3 (0 : Fin 1) k c)) := by
  pointwise [level]; rw [neg_inf_bf16]; rfl

theorem expo_256 (h : Ok 256) (v : Vec Ideal (Blk3 256) .bf16) (c : Fin 256) :
    expo h v (ix2 (0 : Fin 1) c) = kExpo (lev (peak fun k => v (ix3 (0 : Fin 1) k c))) := by
  rw [← level_256 h v c]
  unfold kExpo
  rw [← field_256]
  rfl

theorem scaleOut_256 (h : Ok 256) (v : Vec Ideal (Blk3 256) .bf16) (c : Fin 256) :
    scaleOut h v (ix3 (0 : Fin 1) (0 : Fin 1) c) = kScale (peak fun k => v (ix3 (0 : Fin 1) k c)) := by
  unfold kScale
  rw [← expo_256 h]
  unfold scaleOut scale
  generalize expo h v = w
  pointwise []

theorem codes_256 (h : Ok 256) (v : Vec Ideal (Blk3 256) .bf16) (k : Fin 128) (c : Fin 256) :
    codes h v (ix2 k c) = min (Ideal.ofBits .f32 0x43E00000#32)
      (max (Ideal.ofBits .f32 0xC3E00000#32) (v (ix3 (0 : Fin 1) k c) * kInv (peak fun k => v (ix3 (0 : Fin 1) k c)))) := by
  unfold kInv
  rw [← expo_256 h]
  unfold codes inv
  generalize expo h v = w
  pointwise []

theorem codesOut_256 (h : Ok 256) (v : Vec Ideal (Blk3 256) .bf16) (k : Fin 128) (c : Fin 256) :
    codesOut h v (ix3 (0 : Fin 1) k c) = codes h v (ix2 k c) := by
  unfold codesOut
  generalize codes h v = w
  pointwise []

theorem wideOut_256 (h : Ok 256) (v : Vec Ideal (Blk3 256) .bf16) (k : Fin 128) (c : Fin 256) :
    wideOut h v (ix2 k c) = codes h v (ix2 k c) * kScale (peak fun k => v (ix3 (0 : Fin 1) k c)) := by
  unfold kScale
  rw [← expo_256 h]
  unfold wideOut wide scale
  generalize expo h v = w
  generalize codes h v = w'
  pointwise []

/-! ## One group, 1152 columns wide -/

theorem field_1152 (h : Ok 1152) (y : FVec Ideal (Row 1152) .f32) (c : Fin 1152) : field h y (ix2 (0 : Fin 1) c) = kField (y (ix2 (0 : Fin 1) c)) := by
  pointwise [field]; rfl

theorem level_1152 (h : Ok 1152) (v : Vec Ideal (Blk3 1152) .bf16) (c : Fin 1152) :
    level h v (ix2 (0 : Fin 1) c) = lev (peak fun k => v (ix3 (0 : Fin 1) k c)) := by
  pointwise [level]; rw [neg_inf_bf16]; rfl

theorem expo_1152 (h : Ok 1152) (v : Vec Ideal (Blk3 1152) .bf16) (c : Fin 1152) :
    expo h v (ix2 (0 : Fin 1) c) = kExpo (lev (peak fun k => v (ix3 (0 : Fin 1) k c))) := by
  rw [← level_1152 h v c]
  unfold kExpo
  rw [← field_1152]
  rfl

theorem scaleOut_1152 (h : Ok 1152) (v : Vec Ideal (Blk3 1152) .bf16) (c : Fin 1152) :
    scaleOut h v (ix3 (0 : Fin 1) (0 : Fin 1) c) = kScale (peak fun k => v (ix3 (0 : Fin 1) k c)) := by
  unfold kScale
  rw [← expo_1152 h]
  unfold scaleOut scale
  generalize expo h v = w
  pointwise []

theorem codes_1152 (h : Ok 1152) (v : Vec Ideal (Blk3 1152) .bf16) (k : Fin 128) (c : Fin 1152) :
    codes h v (ix2 k c) = min (Ideal.ofBits .f32 0x43E00000#32)
      (max (Ideal.ofBits .f32 0xC3E00000#32) (v (ix3 (0 : Fin 1) k c) * kInv (peak fun k => v (ix3 (0 : Fin 1) k c)))) := by
  unfold kInv
  rw [← expo_1152 h]
  unfold codes inv
  generalize expo h v = w
  pointwise []

theorem codesOut_1152 (h : Ok 1152) (v : Vec Ideal (Blk3 1152) .bf16) (k : Fin 128) (c : Fin 1152) :
    codesOut h v (ix3 (0 : Fin 1) k c) = codes h v (ix2 k c) := by
  unfold codesOut
  generalize codes h v = w
  pointwise []

theorem wideOut_1152 (h : Ok 1152) (v : Vec Ideal (Blk3 1152) .bf16) (k : Fin 128) (c : Fin 1152) :
    wideOut h v (ix2 k c) = codes h v (ix2 k c) * kScale (peak fun k => v (ix3 (0 : Fin 1) k c)) := by
  unfold kScale
  rw [← expo_1152 h]
  unfold wideOut wide scale
  generalize expo h v = w
  generalize codes h v = w'
  pointwise []

/-! ## The arrays -/

section arrays

/-- The codes, scales and rows of an array from those of its groups. -/
theorem arrays_of {n : ℕ} (h : Ok n)
    (hs : ∀ (v : Vec Ideal (Blk3 n) .bf16) (c : Fin n),
      scaleOut h v (ix3 (0 : Fin 1) (0 : Fin 1) c) = kScale (peak fun k => v (ix3 (0 : Fin 1) k c)))
    (hc : ∀ (v : Vec Ideal (Blk3 n) .bf16) (k : Fin 128) (c : Fin n),
      codes h v (ix2 k c) = min (Ideal.ofBits .f32 0x43E00000#32)
        (max (Ideal.ofBits .f32 0xC3E00000#32) (v (ix3 (0 : Fin 1) k c) * kInv (peak fun k => v (ix3 (0 : Fin 1) k c)))))
    (ho : ∀ (v : Vec Ideal (Blk3 n) .bf16) (k : Fin 128) (c : Fin n), codesOut h v (ix3 (0 : Fin 1) k c) = codes h v (ix2 k c))
    (hw : ∀ (v : Vec Ideal (Blk3 n) .bf16) (k : Fin 128) (c : Fin n),
      wideOut h v (ix2 k c) = codes h v (ix2 k c) * kScale (peak fun k => v (ix3 (0 : Fin 1) k c)))
    (x : Vec Ideal (Arr n) .bf16) :
    (∀ b s c, codesAll h x (ix3 b s c) = codeAt kInv x b s c)
      ∧ (∀ b g c, scalesAll h x (ix3 b g c) = scaleAt kScale x b g c)
      ∧ ∀ k c, wideAll h x (ix2 k c) = wideAt kInv kScale x k c := by
  have hk : ∀ (b : Fin 6) (s : Fin 256) (c : Fin n), codes h (grp x b (grpOf s)) (ix2 (⟨s.val % 128, by omega⟩ : Fin 128) c) = codeAt kInv x b s c := by
    intro b s c
    rw [hc]
    simp only [grp_apply]
    unfold codeAt
    have : col x b (grpOf s) c ⟨s.val % 128, by omega⟩ = x (ix3 b s c) := by
      unfold col grpOf
      congr 2
      exact Fin.ext (show s.val / 128 * 128 + s.val % 128 = s.val by omega)
    rw [this]
  refine ⟨fun b s c => ?_, fun b g c => ?_, fun k c => ?_⟩
  · refine Eq.trans ?_ ((ho _ _ _).trans (hk b s c))
    show codesOut h _ _ = _
    congr 1
    funext a
    fin_cases a <;> rfl
  · refine Eq.trans ?_ (hs (grp x b g) c) |>.trans ?_
    · show scaleOut h _ _ = _
      congr 1
      funext a
      fin_cases a <;> rfl
    · simp only [grp_apply]; rfl
  · have e1 : batR (n := n) (ix2 k c) = batOf k := rfl
    have e2 : grpR (n := n) (ix2 k c) = grpOf (rowOf k) := Fin.ext (show k.val / 128 % 2 = k.val % 256 / 128 by omega)
    have e3 : inR (n := n) (ix2 k c) = ix2 (⟨(rowOf k).val % 128, by omega⟩ : Fin 128) c := by
      funext a
      fin_cases a
      · exact Fin.ext (show k.val % 128 = k.val % 256 % 128 by omega)
      · rfl
    show wideOut h (grp x (batR (n := n) (ix2 k c)) (grpR (n := n) (ix2 k c))) (inR (n := n) (ix2 k c)) = _
    rw [e1, e2, e3, hw, hk]
    simp only [grp_apply]
    rfl

theorem read_256 (x : Vec Ideal (Arr 256) .bf16) :
    (∀ b s c, codesAll okY x (ix3 b s c) = codeAt kInv x b s c)
      ∧ (∀ b g c, scalesAll okY x (ix3 b g c) = scaleAt kScale x b g c)
      ∧ ∀ k c, wideAll okY x (ix2 k c) = wideAt kInv kScale x k c :=
  arrays_of okY (scaleOut_256 okY) (codes_256 okY) (codesOut_256 okY) (wideOut_256 okY) x

theorem read_1152 (x : Vec Ideal (Arr 1152) .bf16) :
    (∀ b s c, codesAll okX x (ix3 b s c) = codeAt kInv x b s c)
      ∧ (∀ b g c, scalesAll okX x (ix3 b g c) = scaleAt kScale x b g c)
      ∧ ∀ k c, wideAll okX x (ix2 k c) = wideAt kInv kScale x k c :=
  arrays_of okX (scaleOut_1152 okX) (codes_1152 okX) (codesOut_1152 okX) (wideOut_1152 okX) x

theorem pay4_apply (a : Vec Ideal (Rows 256) .bf16) (b : Vec Ideal (Rows 1152) .bf16) (i : Fin 256) (j : Fin 1152) :
    KernelIdeal.Gen.k0_pay4 (F := Ideal) a b (ix2 i j) = ∑ k, a (ix2 k i) * b (ix2 k j) := by
  unfold KernelIdeal.Gen.k0_pay4
  pointwise []

/-- A block of the product. -/
theorem dwBlock_apply (x : Vec Ideal (Arr 1152) .bf16) (d : Vec Ideal (Arr 256) .bf16) (i : Fin 256) (j : Fin 1152) :
    dwBlock (F := Ideal) x d (ix2 i j) = dwAt kInv kScale x d i j := by
  unfold dwBlock
  refine (pay4_apply _ _ i j).trans ?_
  unfold dwAt
  refine Finset.sum_congr rfl fun k _ => ?_
  rw [(read_256 d).2.2, (read_1152 x).2.2]

end arrays

end Cert.Quant
-- ==== Proof.KernelResults.lean ====
/- What the kernel leaves in its five results, as functions of the operands. -/
module

public import proofs.«01_k».proof.Proof.KernelRun
public import proofs.«01_k».proof.Proof.KernelReads
public import Idealize.ShloMosaic.Lib.Pipeline.ValueKit

@[expose] public section

noncomputable section

namespace Cert.KernelIdeal.Run

open Idealize.ShloMosaic Idealize.SL.Sem Cert.KernelIdeal Cert.KernelIdeal.Gen Cert.Quant

variable (m : (ℓ : Loc nD τ sig) → Buf (Elt Ideal) ℓ)

/-- The operands. -/
def opX (c : Dev nD) : Vec Ideal S6x256x1152 .bf16 := m ((c.tc : Thread nD τ).loc main_arg0)
def opD (c : Dev nD) : Vec Ideal S6x256x4352 .bf16 := m ((c.tc : Thread nD τ).loc main_arg1)

/-! ## Where the windows' blocks lie -/

theorem idx0 : ∀ t : Fin cfg0.N, win0_0.index t = ![0, 0, 0] := (by decide +kernel : ∀ t : Fin grid0.N, _)
theorem idx1 : ∀ t : Fin cfg0.N, win0_1.index t = ![0, 0, t.val] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0, t.val] := (by decide +kernel : ∀ t : Fin grid0.N, _)
theorem idx6 : ∀ t : Fin cfg0.N, win0_6.index t = ![0, 0, t.val] := (by decide +kernel : ∀ t : Fin grid0.N, _)

theorem lt17 (t : Fin cfg0.N) : t.val < 17 := lt_of_lt_of_eq t.isLt N_0

/-- The column of `dy` that column `i` of point `t`'s block is. -/
def colOf (t : Fin cfg0.N) (i : Fin 256) : Fin 4352 := ⟨t.val * 256 + i.val, by have := lt17 t; omega⟩

theorem blk0_op (c : Dev nD) (t : Fin cfg0.N) : iblk m c 0 t = opX m c := by
  funext y
  unfold iblk opX
  blk_simp
  refine congrArg (m (c.tc.loc main_arg0)) ?_
  blk_ext [idx0]

theorem xBlk_op (c : Dev nD) : xBlk m c = opX m c := blk0_op m c _

theorem dBlk_op (c : Dev nD) (t : Fin cfg0.N) (b : Fin 6) (s : Fin 256) (i : Fin 256) :
    iblk m c 1 t (ix3 b s i) = opD m c (ix3 b s (colOf t i)) := by
  unfold iblk opD colOf
  blk_simp
  refine congrArg (m (c.tc.loc main_arg1)) ?_
  blk_ext [idx1]

/-! ## The results -/

theorem arr2 (c : Dev nD) : (dats m 0 c).arrAt 2 cfg0.N = fun j => dwAt kInv kScale (opX m c) (opD m c) (j 0) (j 1) := by
  refine (dats m 0 c).arrAt_eq_of_covers 2 _ (by decide +kernel) fun t hf y => ?_
  blk_simp
  rw [after2, xBlk_op, show (win0_2.blk t).view.emb y = ix2 (colOf t (y 0)) (y 1 : Fin 1152) by blk_ext [idx2, colOf]]
  idx_vars y
  refine (dwBlock_apply _ _ y0 y1).trans ?_
  unfold dwAt
  refine Finset.sum_congr rfl fun k _ => ?_
  rw [wideAt_block kInv kScale _ _ (colOf t) (dBlk_op m c t)]

theorem arr3 (c : Dev nD) : (dats m 0 c).arrAt 3 cfg0.N = fun j => codeAt kInv (opX m c) (j 0) (j 1) (j 2) := by
  refine (dats m 0 c).arrAt_eq_of_covers 3 _ (by decide +kernel) fun t hf y => ?_
  blk_simp
  rw [after3, xBlk_op, show (win0_3.blk t).view.emb y = y by blk_ext [idx3]]
  idx_vars y
  exact (read_1152 _).1 _ _ _

theorem arr4 (c : Dev nD) : (dats m 0 c).arrAt 4 cfg0.N = fun j => scaleAt kScale (opX m c) (j 0) (j 1) (j 2) := by
  refine (dats m 0 c).arrAt_eq_of_covers 4 _ (by decide +kernel) fun t hf y => ?_
  blk_simp
  rw [after4, xBlk_op, show (win0_4.blk t).view.emb y = y by blk_ext [idx4]]
  idx_vars y
  exact (read_1152 _).2.1 _ _ _

theorem arr5 (c : Dev nD) : (dats m 0 c).arrAt 5 cfg0.N = fun j => codeAt kInv (opD m c) (j 0) (j 1) (j 2) := by
  refine (dats m 0 c).arrAt_eq_of_covers 5 _ (by decide +kernel) fun t hf y => ?_
  blk_simp
  rw [after5, show (win0_5.blk t).view.emb y = ix3 (y 0 : Fin 6) (y 1 : Fin 256) (colOf t (y 2)) by blk_ext [idx5, colOf]]
  idx_vars y
  refine ((read_256 _).1 y0 y1 y2).trans ?_
  exact codeAt_block kInv _ _ (colOf t) (dBlk_op m c t) y0 y1 y2

theorem arr6 (c : Dev nD) : (dats m 0 c).arrAt 6 cfg0.N = fun j => scaleAt kScale (opD m c) (j 0) (j 1) (j 2) := by
  refine (dats m 0 c).arrAt_eq_of_covers 6 _ (by decide +kernel) fun t hf y => ?_
  blk_simp
  rw [after6, show (win0_6.blk t).view.emb y = ix3 (y 0 : Fin 6) (y 1 : Fin 2) (colOf t (y 2)) by blk_ext [idx6, colOf]]
  idx_vars y
  refine ((read_256 _).2.1 y0 y1 y2).trans ?_
  exact scaleAt_block kScale _ _ (colOf t) (dBlk_op m c t) y0 y1 y2

/-- The run: the five results, and the operands unchanged. -/
theorem run_results (ρ : Dev nD → PrngReg) : θ_run (defs (F := Ideal)) (onTc (τ := τ) (main (F := Ideal))) ⟨m, fun _ => 0, ρ⟩ (fun r => ∀ c : Dev nD,
    r.2.mem ((c.tc : Thread nD τ).loc main_v0_0) = (fun j => dwAt kInv kScale (opX m c) (opD m c) (j 0) (j 1))
    ∧ r.2.mem ((c.tc : Thread nD τ).loc main_v0_1) = (fun j => codeAt kInv (opX m c) (j 0) (j 1) (j 2))
    ∧ r.2.mem ((c.tc : Thread nD τ).loc main_v0_2) = (fun j => scaleAt kScale (opX m c) (j 0) (j 1) (j 2))
    ∧ r.2.mem ((c.tc : Thread nD τ).loc main_v0_3) = (fun j => codeAt kInv (opD m c) (j 0) (j 1) (j 2))
    ∧ r.2.mem ((c.tc : Thread nD τ).loc main_v0_4) = (fun j => scaleAt kScale (opD m c) (j 0) (j 1) (j 2))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c =>
    ⟨((h c).1 2).trans (arr2 m c), ((h c).1 3).trans (arr3 m c), ((h c).1 4).trans (arr4 m c),
      ((h c).1 5).trans (arr5 m c), ((h c).1 6).trans (arr6 m c),
      (((h c).1 0).trans ((dats m 0 c).arrAt_in 0 rfl _)).trans (A_eq m c 0),
      (((h c).1 1).trans ((dats m 0 c).arrAt_in 1 rfl _)).trans (A_eq m c 1)⟩) (run_main m ρ)

end Cert.KernelIdeal.Run
-- ==== Proof.RefReads.lean ====
/- The reference's results over the extended reals, read at an index. -/
module

public import proofs.«01_k».proof.Proof.Gen.ReferenceIdeal.Frame
public import proofs.«01_k».proof.Proof.Spec

@[expose] public section

noncomputable section

namespace Cert.ReferenceIdeal.Reads

open Idealize.ShloMosaic Cert.ReferenceIdeal Cert.ReferenceIdeal.Gen Cert.Quant

/-- The reference's exponent as its operations compute it from the greatest magnitude. -/
theorem rExpo_ops (a : EReal) :
    Scalar.select (Ideal.cmp .oeq a (Ideal.ofBits .f32 0x00000000#32)) (Ideal.ofBits .f32 0x00000000#32)
      (Scalar.select (IntOp.ori (Ideal.cmp .olt (lev a) (Ideal.ofBits .f32 0x00800000#32)) (Ideal.cmp .oeq (lev a) (Ideal.ofBits .f32 0x7F800000#32)))
        (Ideal.ofBits .f32 0x00000000#32)
        (Ideal.liftRound Int.floor (Ideal.div (Ideal.log (lev a)) (Ideal.log (Ideal.ofBits .f32 0x40000000#32)))
          + Ideal.ofBits .f32 0x3F800000#32)) = rExpo a := by
  unfold rExpo
  rw [Ideal.ofBits_zero_f32, Ideal.ofBits_one_f32]
  by_cases h : a = 0
  · rw [if_pos h]; simp [Ideal.cmp, h, Scalar.select]
  · rw [if_neg h]; simp only [Ideal.cmp, h, decide_false, BitVec.ofBool_false, Scalar.select]; rfl

/-! ## The operations at an index, their constants left open -/

theorem expo_ops {s : Shape} (w : FVec Ideal s .f32) (z q t u one two : Ideal .f32) (i : s.Idx) :
    select (cmpf .oeq w (broadcast s z)) (broadcast s z)
      (select (ori (cmpf .olt (mulf w (broadcast s q)) (broadcast s t)) (cmpf .oeq (mulf w (broadcast s q)) (broadcast s u)))
        (broadcast s z)
        (addf (floor (divf (log (mulf w (broadcast s q))) (log (broadcast s two)))) (broadcast s one))) i
    = Scalar.select (Ideal.cmp .oeq (w i) z) z
        (Scalar.select (IntOp.ori (Ideal.cmp .olt (w i * q) t) (Ideal.cmp .oeq (w i * q) u)) z
          (Ideal.liftRound Int.floor (Ideal.div (Ideal.log (w i * q)) (Ideal.log two)) + one)) := rfl

theorem pow_ops {s : Shape} (e : FVec Ideal s .f32) (two : Ideal .f32) (i : s.Idx) : powf (broadcast s two) e i = Ideal.pow two (e i) := rfl

theorem inv_ops {s : Shape} (e : FVec Ideal s .f32) (two z : Ideal .f32) (i : s.Idx) :
    powf (broadcast s two) (subf (broadcast s z) e) i = Ideal.pow two (z - e i) := rfl

theorem clip_ops {s : Shape} (w e : FVec Ideal s .f32) (hi lo : Ideal .f32) (i : s.Idx) :
    truncf .fp8e4m3 (minimumf (broadcast s hi) (maximumf (broadcast s lo) (mulf w e))) bitsLt_fp8e4m3_f32 i
      = min hi (max lo (w i * e i)) := rfl

/-! ## The first operand -/

theorem merge_1152 {α : Type} (v : S6x2x128x1152.Idx → α) (b : Fin 6) (s : Fin 256) (c : Fin 1152) :
    shapeCast S6x256x1152 v shapeCasts_S6x2x128x1152_S6x256x1152 (ix3 b s c)
      = v (ix4 b (grpOf s) (⟨s.val % 128, by omega⟩ : Fin 128) c) := by
  pointwise []; rfl

theorem split_1152 {α : Type} (v : S6x256x1152.Idx → α) (b : Fin 6) (g : Fin 2) (k : Fin 128) (c : Fin 1152) :
    shapeCast S6x2x128x1152 v shapeCasts_S6x256x1152_S6x2x128x1152 (ix4 b g k c)
      = v (ix3 b (⟨g.val * 128 + k.val, by omega⟩ : Fin 256) c) := by
  pointwise []

theorem spread_1152 {α : Type} (v : S6x2x1x1152.Idx → α) (b : Fin 6) (g : Fin 2) (k : Fin 128) (c : Fin 1152) :
    broadcastTo S6x2x128x1152 v broadcasts_S6x2x1x1152_S6x2x128x1152 (ix4 b g k c) = v (ix4 b g (0 : Fin 1) c) := by
  pointwise []

theorem keep_1152 {α : Type} (v : S6x2x1152.Idx → α) (b : Fin 6) (g : Fin 2) (c : Fin 1152) :
    shapeCast S6x2x1x1152 v shapeCasts_S6x2x1152_S6x2x1x1152 (ix4 b g (0 : Fin 1) c) = v (ix3 b g c) := by
  pointwise []

theorem drop_1152 {α : Type} (v : S6x2x1x1152.Idx → α) (b : Fin 6) (g : Fin 2) (c : Fin 1152) :
    shapeCast S6x2x1152 v shapeCasts_S6x2x1x1152_S6x2x1152 (ix3 b g c) = v (ix4 b g (0 : Fin 1) c) := by
  pointwise []

theorem max_1152 (v : FVec Ideal S6x2x128x1152 .f32) (b : Fin 6) (g : Fin 2) (c : Fin 1152) :
    multiReduction .maximumf [2] S6x2x1152 v 0xFF800000#32 reduces_S6x2x128x1152_S6x2x1152 (.inl rfl) rfl (ix3 b g c)
      = Finset.univ.fold max ⊥ fun k : Fin 128 => v (ix4 b g k c) := by
  pointwise []
  rw [show Ideal.ofBits .f32 0xFF800000#32 = ⊥ by simp [Ideal.ofBits, Ideal.ieee]]

theorem rows_1152 {α : Type} (v : S6x256x1152.Idx → α) (k : Fin 1536) (c : Fin 1152) :
    shapeCast S1536x1152 v shapeCasts_S6x256x1152_S1536x1152 (ix2 k c) = v (ix3 (batOf k) (rowOf k) c) := by
  pointwise []; rfl

theorem wide_1152 (v : Vec Ideal S6x256x1152 .bf16) (b : Fin 6) (g : Fin 2) (k : Fin 128) (c : Fin 1152) :
    k0_pay2 v (ix4 b g k c) = col v b g c k := by
  unfold k0_pay2
  exact split_1152 _ b g k c

theorem peak_1152 (v : Vec Ideal S6x256x1152 .bf16) (b : Fin 6) (g : Fin 2) (c : Fin 1152) :
    shapeCast S6x2x1x1152 (multiReduction .maximumf [2] S6x2x1152 (absf (k0_pay2 v)) 0xFF800000#32
        reduces_S6x2x128x1152_S6x2x1152 (.inl rfl) rfl : FVec Ideal S6x2x1152 .f32)
      shapeCasts_S6x2x1152_S6x2x1x1152 (ix4 b g (0 : Fin 1) c) = peak (col v b g c) := by
  rw [keep_1152, max_1152]
  unfold peak
  refine congrArg (fun f => Finset.fold max ⊥ f Finset.univ) (funext fun k => ?_)
  rw [← wide_1152 v b g k c]
  rfl

theorem expo_1152 (v : Vec Ideal S6x256x1152 .bf16) (b : Fin 6) (g : Fin 2) (c : Fin 1152) :
    k0_pay3 v (ix4 b g (0 : Fin 1) c) = rExpo (peak (col v b g c)) := by
  rw [← rExpo_ops, ← peak_1152]
  unfold k0_pay3 lev
  exact expo_ops _ _ _ _ _ _ _ _

theorem codes_1152 (v : Vec Ideal S6x256x1152 .bf16) (b : Fin 6) (s : Fin 256) (c : Fin 1152) :
    k0_pay5 v (ix3 b s c) = codeAt rInv v b s c := by
  unfold k0_pay5
  refine (merge_1152 _ b s c).trans ?_
  refine (clip_ops _ _ _ _ _).trans ?_
  unfold codeAt rInv
  rw [spread_1152, wide_1152, ← expo_1152]
  unfold k0_pay4
  rw [inv_ops, Ideal.ofBits_def, Ideal.ofBits_def, Ideal.ofBits_def, Ideal.ofBits_def, Ideal.ofBits_zero_f32]
  rw [show v (ix3 b s c) = col v b (grpOf s) c (⟨s.val % 128, by omega⟩ : Fin 128) by
    unfold col grpOf; congr 2; exact Fin.ext (show s.val = s.val / 128 * 128 + s.val % 128 by omega)]

theorem scales_1152 (v : Vec Ideal S6x256x1152 .bf16) (b : Fin 6) (g : Fin 2) (c : Fin 1152) :
    k0_pay6 v (ix3 b g c) = scaleAt rScale v b g c := by
  unfold k0_pay6 scaleAt rScale
  refine (drop_1152 _ b g c).trans ?_
  rw [← expo_1152]
  unfold k0_pay4
  rw [pow_ops, Ideal.ofBits_def]

/-! ## The second operand -/

theorem merge_4352 {α : Type} (v : S6x2x128x4352.Idx → α) (b : Fin 6) (s : Fin 256) (c : Fin 4352) :
    shapeCast S6x256x4352 v shapeCasts_S6x2x128x4352_S6x256x4352 (ix3 b s c)
      = v (ix4 b (grpOf s) (⟨s.val % 128, by omega⟩ : Fin 128) c) := by
  pointwise []; rfl

theorem split_4352 {α : Type} (v : S6x256x4352.Idx → α) (b : Fin 6) (g : Fin 2) (k : Fin 128) (c : Fin 4352) :
    shapeCast S6x2x128x4352 v shapeCasts_S6x256x4352_S6x2x128x4352 (ix4 b g k c)
      = v (ix3 b (⟨g.val * 128 + k.val, by omega⟩ : Fin 256) c) := by
  pointwise []

theorem spread_4352 {α : Type} (v : S6x2x1x4352.Idx → α) (b : Fin 6) (g : Fin 2) (k : Fin 128) (c : Fin 4352) :
    broadcastTo S6x2x128x4352 v broadcasts_S6x2x1x4352_S6x2x128x4352 (ix4 b g k c) = v (ix4 b g (0 : Fin 1) c) := by
  pointwise []

theorem keep_4352 {α : Type} (v : S6x2x4352.Idx → α) (b : Fin 6) (g : Fin 2) (c : Fin 4352) :
    shapeCast S6x2x1x4352 v shapeCasts_S6x2x4352_S6x2x1x4352 (ix4 b g (0 : Fin 1) c) = v (ix3 b g c) := by
  pointwise []

theorem drop_4352 {α : Type} (v : S6x2x1x4352.Idx → α) (b : Fin 6) (g : Fin 2) (c : Fin 4352) :
    shapeCast S6x2x4352 v shapeCasts_S6x2x1x4352_S6x2x4352 (ix3 b g c) = v (ix4 b g (0 : Fin 1) c) := by
  pointwise []

theorem max_4352 (v : FVec Ideal S6x2x128x4352 .f32) (b : Fin 6) (g : Fin 2) (c : Fin 4352) :
    multiReduction .maximumf [2] S6x2x4352 v 0xFF800000#32 reduces_S6x2x128x4352_S6x2x4352 (.inl rfl) rfl (ix3 b g c)
      = Finset.univ.fold max ⊥ fun k : Fin 128 => v (ix4 b g k c) := by
  pointwise []
  rw [show Ideal.ofBits .f32 0xFF800000#32 = ⊥ by simp [Ideal.ofBits, Ideal.ieee]]

theorem rows_4352 {α : Type} (v : S6x256x4352.Idx → α) (k : Fin 1536) (c : Fin 4352) :
    shapeCast S1536x4352 v shapeCasts_S6x256x4352_S1536x4352 (ix2 k c) = v (ix3 (batOf k) (rowOf k) c) := by
  pointwise []; rfl

theorem wide_4352 (v : Vec Ideal S6x256x4352 .bf16) (b : Fin 6) (g : Fin 2) (k : Fin 128) (c : Fin 4352) :
    k0_pay7 v (ix4 b g k c) = col v b g c k := by
  unfold k0_pay7
  exact split_4352 _ b g k c

theorem peak_4352 (v : Vec Ideal S6x256x4352 .bf16) (b : Fin 6) (g : Fin 2) (c : Fin 4352) :
    shapeCast S6x2x1x4352 (multiReduction .maximumf [2] S6x2x4352 (absf (k0_pay7 v)) 0xFF800000#32
        reduces_S6x2x128x4352_S6x2x4352 (.inl rfl) rfl : FVec Ideal S6x2x4352 .f32)
      shapeCasts_S6x2x4352_S6x2x1x4352 (ix4 b g (0 : Fin 1) c) = peak (col v b g c) := by
  rw [keep_4352, max_4352]
  unfold peak
  refine congrArg (fun f => Finset.fold max ⊥ f Finset.univ) (funext fun k => ?_)
  rw [← wide_4352 v b g k c]
  rfl

theorem expo_4352 (v : Vec Ideal S6x256x4352 .bf16) (b : Fin 6) (g : Fin 2) (c : Fin 4352) :
    k0_pay8 v (ix4 b g (0 : Fin 1) c) = rExpo (peak (col v b g c)) := by
  rw [← rExpo_ops, ← peak_4352]
  unfold k0_pay8 lev
  exact expo_ops _ _ _ _ _ _ _ _

theorem codes_4352 (v : Vec Ideal S6x256x4352 .bf16) (b : Fin 6) (s : Fin 256) (c : Fin 4352) :
    k0_pay10 v (ix3 b s c) = codeAt rInv v b s c := by
  unfold k0_pay10
  refine (merge_4352 _ b s c).trans ?_
  refine (clip_ops _ _ _ _ _).trans ?_
  unfold codeAt rInv
  rw [spread_4352, wide_4352, ← expo_4352]
  unfold k0_pay9
  rw [inv_ops, Ideal.ofBits_def, Ideal.ofBits_def, Ideal.ofBits_def, Ideal.ofBits_def, Ideal.ofBits_zero_f32]
  rw [show v (ix3 b s c) = col v b (grpOf s) c (⟨s.val % 128, by omega⟩ : Fin 128) by
    unfold col grpOf; congr 2; exact Fin.ext (show s.val = s.val / 128 * 128 + s.val % 128 by omega)]

theorem scales_4352 (v : Vec Ideal S6x256x4352 .bf16) (b : Fin 6) (g : Fin 2) (c : Fin 4352) :
    k0_pay11 v (ix3 b g c) = scaleAt rScale v b g c := by
  unfold k0_pay11 scaleAt rScale
  refine (drop_4352 _ b g c).trans ?_
  rw [← expo_4352]
  unfold k0_pay9
  rw [pow_ops, Ideal.ofBits_def]

end Cert.ReferenceIdeal.Reads
-- ==== Proof.RefResults.lean ====
/- What the reference leaves in its five results, as functions of the operands. -/
module

public import proofs.«01_k».proof.Proof.RefReads
public import Idealize.ShloMosaic.Lib.Pipeline.ValueKit

@[expose] public section

noncomputable section

namespace Cert.ReferenceIdeal.Reads

open Idealize.ShloMosaic Idealize.SL.Sem Cert.ReferenceIdeal Cert.ReferenceIdeal.Gen Cert.Quant

/-! ## The product -/

/-- The product's operations at an index: a sum over the rows of codes times scales. -/
theorem product_ops (a : FVec Ideal S6x2x4352 .f32) (p : FVec Ideal S6x256x1152 .fp8e4m3) (q : FVec Ideal S6x2x1152 .f32)
    (d : FVec Ideal S6x256x4352 .bf16) (i : Fin 4352) (j : Fin 1152) :
    k0_pay1 a (k0_pay12 p q) d (ix2 i j)
      = ∑ k : Fin 1536, (d (ix3 (batOf k) (rowOf k) i) * a (ix3 (batOf k) (grpOf (rowOf k)) i))
          * (p (ix3 (batOf k) (rowOf k) j) * q (ix3 (batOf k) (grpOf (rowOf k)) j)) := by
  pointwise [k0_pay1, k0_pay12]
  refine Finset.sum_congr rfl fun k _ => ?_
  have h1 : (⟨k.val / 128 % 2 * 128 + k.val % 128, by omega⟩ : Fin 256) = rowOf k :=
    Fin.ext (show k.val / 128 % 2 * 128 + k.val % 128 = k.val % 256 by omega)
  have h2 : (⟨k.val / 128 % 2, by omega⟩ : Fin 2) = grpOf (rowOf k) :=
    Fin.ext (show k.val / 128 % 2 = k.val % 256 / 128 by omega)
  rw [h1, h2]
  rfl

/-! ## What the body leaves -/

theorem out2 (x : Vec Ideal S6x256x1152 .bf16) (d : Vec Ideal S6x256x4352 .bf16) (i : Fin 4352) (j : Fin 1152) :
    out0_2 x d (ix2 i j) = dwAt rInv rScale x d i j := by
  unfold out0_2 k0_pay14 k0_pay15 k0_pay16
  simp only [r0_0, r0_1, r0_2]
  rw [View.canon_cons_unit_lit _ _ _ (by decide), View.ld_unit_lit _ _ (by decide), View.ld_unit_lit _ _ (by decide)]
  refine (product_ops _ _ _ _ i j).trans ?_
  unfold dwAt wideAt
  refine Finset.sum_congr rfl fun k _ => ?_
  rw [codes_1152, scales_1152, scales_4352]
  rw [show k0_pay13 d = k0_pay10 d from rfl, codes_4352]

theorem out3 (x : Vec Ideal S6x256x1152 .bf16) (d : Vec Ideal S6x256x4352 .bf16) (b : Fin 6) (s : Fin 256) (c : Fin 1152) :
    out0_3 x d (ix3 b s c) = codeAt rInv x b s c := by
  unfold out0_3 k0_pay14
  simp only [r0_0]
  rw [View.canon_cons_unit_lit _ _ _ (by decide), View.ld_unit_lit _ _ (by decide), codes_1152]

theorem out4 (x : Vec Ideal S6x256x1152 .bf16) (d : Vec Ideal S6x256x4352 .bf16) (b : Fin 6) (g : Fin 2) (c : Fin 1152) :
    out0_4 x d (ix3 b g c) = scaleAt rScale x b g c := by
  unfold out0_4 k0_pay15
  simp only [r0_0, r0_3]
  rw [View.canon_cons_unit_lit _ _ _ (by decide), View.ld_unit_lit _ _ (by decide), scales_1152]

theorem out5 (x : Vec Ideal S6x256x1152 .bf16) (d : Vec Ideal S6x256x4352 .bf16) (b : Fin 6) (s : Fin 256) (c : Fin 4352) :
    out0_5 x d (ix3 b s c) = codeAt rInv d b s c := by
  unfold out0_5
  simp only [r0_1]
  rw [View.canon_cons_unit_lit _ _ _ (by decide), View.ld_unit_lit _ _ (by decide), codes_4352]

theorem out6 (x : Vec Ideal S6x256x1152 .bf16) (d : Vec Ideal S6x256x4352 .bf16) (b : Fin 6) (g : Fin 2) (c : Fin 4352) :
    out0_6 x d (ix3 b g c) = scaleAt rScale d b g c := by
  unfold out0_6 k0_pay16
  simp only [r0_1, r0_4]
  rw [View.canon_cons_unit_lit _ _ _ (by decide), View.ld_unit_lit _ _ (by decide), scales_4352]

/-! ## What the run leaves -/

section run
variable (m : (ℓ : Loc nD τ sig) → Buf (Elt Ideal) ℓ)

/-- The operands. -/
def opX (c : Dev nD) : Vec Ideal S6x256x1152 .bf16 := m ((c.tc : Thread nD τ).loc main_arg0)
def opD (c : Dev nD) : Vec Ideal S6x256x4352 .bf16 := m ((c.tc : Thread nD τ).loc main_arg1)

theorem idx0 : ∀ t : Fin cfg0.N, win0_0.index t = ![0, 0, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0, 0] := (by decide +kernel : ∀ t : Fin grid0.N, _)

theorem blk0 (c : Dev nD) (t : Fin cfg0.N) : iblk m c 0 t = opX m c := by
  funext y
  unfold iblk opX
  blk_simp
  refine congrArg (m (c.tc.loc main_arg0)) ?_
  blk_ext [idx0]

theorem blk1 (c : Dev nD) (t : Fin cfg0.N) : iblk m c 1 t = opD m c := by
  funext y
  unfold iblk opD
  blk_simp
  refine congrArg (m (c.tc.loc main_arg1)) ?_
  blk_ext [idx1]

theorem arr2 (c : Dev nD) : (dats m 0 c).arrAt 2 cfg0.N = fun j => dwAt rInv rScale (opX m c) (opD m c) (j 0) (j 1) := by
  refine (dats m 0 c).arrAt_eq_of_covers 2 _ (by decide +kernel) fun t hf y => ?_
  blk_simp
  rw [after0_2, blk0, blk1, show (win0_2.blk t).view.emb y = y by blk_ext [idx2]]
  idx_vars y
  exact out2 _ _ _ _

theorem arr3 (c : Dev nD) : (dats m 0 c).arrAt 3 cfg0.N = fun j => codeAt rInv (opX m c) (j 0) (j 1) (j 2) := by
  refine (dats m 0 c).arrAt_eq_of_covers 3 _ (by decide +kernel) fun t hf y => ?_
  blk_simp
  rw [after0_3, blk0, blk1, show (win0_3.blk t).view.emb y = y by blk_ext [idx3]]
  idx_vars y
  exact out3 _ _ _ _ _

theorem arr4 (c : Dev nD) : (dats m 0 c).arrAt 4 cfg0.N = fun j => scaleAt rScale (opX m c) (j 0) (j 1) (j 2) := by
  refine (dats m 0 c).arrAt_eq_of_covers 4 _ (by decide +kernel) fun t hf y => ?_
  blk_simp
  rw [after0_4, blk0, blk1, show (win0_4.blk t).view.emb y = y by blk_ext [idx4]]
  idx_vars y
  exact out4 _ _ _ _ _

theorem arr5 (c : Dev nD) : (dats m 0 c).arrAt 5 cfg0.N = fun j => codeAt rInv (opD m c) (j 0) (j 1) (j 2) := by
  refine (dats m 0 c).arrAt_eq_of_covers 5 _ (by decide +kernel) fun t hf y => ?_
  blk_simp
  rw [after0_5, blk0, blk1, show (win0_5.blk t).view.emb y = y by blk_ext [idx5]]
  idx_vars y
  exact out5 _ _ _ _ _

theorem arr6 (c : Dev nD) : (dats m 0 c).arrAt 6 cfg0.N = fun j => scaleAt rScale (opD m c) (j 0) (j 1) (j 2) := by
  refine (dats m 0 c).arrAt_eq_of_covers 6 _ (by decide +kernel) fun t hf y => ?_
  blk_simp
  rw [after0_6, blk0, blk1, show (win0_6.blk t).view.emb y = y by blk_ext [idx6]]
  idx_vars y
  exact out6 _ _ _ _ _

/-- The run: the five results, and the operands unchanged. -/
theorem run_results (ρ : Dev nD → PrngReg) : θ_run (defs (F := Ideal)) (onTc (τ := τ) (main (F := Ideal))) ⟨m, fun _ => 0, ρ⟩ (fun r => ∀ c : Dev nD,
    r.2.mem ((c.tc : Thread nD τ).loc main_v0_0) = (fun j => dwAt rInv rScale (opX m c) (opD m c) (j 0) (j 1))
    ∧ r.2.mem ((c.tc : Thread nD τ).loc main_v0_1) = (fun j => codeAt rInv (opX m c) (j 0) (j 1) (j 2))
    ∧ r.2.mem ((c.tc : Thread nD τ).loc main_v0_2) = (fun j => scaleAt rScale (opX m c) (j 0) (j 1) (j 2))
    ∧ r.2.mem ((c.tc : Thread nD τ).loc main_v0_3) = (fun j => codeAt rInv (opD m c) (j 0) (j 1) (j 2))
    ∧ r.2.mem ((c.tc : Thread nD τ).loc main_v0_4) = (fun j => scaleAt rScale (opD m c) (j 0) (j 1) (j 2))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c =>
    ⟨((h c).1 2).trans (arr2 m c), ((h c).1 3).trans (arr3 m c), ((h c).1 4).trans (arr4 m c),
      ((h c).1 5).trans (arr5 m c), ((h c).1 6).trans (arr6 m c),
      (((h c).1 0).trans ((dats m 0 c).arrAt_in 0 rfl _)).trans (A_eq m c 0),
      (((h c).1 1).trans ((dats m 0 c).arrAt_in 1 rfl _)).trans (A_eq m c 1)⟩) (run_main m ρ)

end run

end Cert.ReferenceIdeal.Reads
-- ==== Proof.Scalar.lean ====
/- The kernel's way from a group's greatest magnitude to its scale and the reference's are the same, where the magnitude
   is one of a bf16 entry: at most the greatest finite one, or infinite. The kernel counts the powers of two the level
   reaches and builds the scale from its bits; the reference takes the floor of the level's logarithm and a power. -/
module

public import proofs.«01_k».proof.Proof.Spec

@[expose] public section

noncomputable section

namespace Cert.Quant

open Idealize.ShloMosaic

/-! ## Powers of two as bits -/

/-- A pattern with the sign bit clear, by its exponent and fraction fields. -/
theorem ieee_fields (e m : ℕ) {w : ℕ} (b : BitVec w) (ex fr : ℕ) (hx : (b.extractLsb' m e).toNat = ex)
    (hf : (b.extractLsb' 0 m).toNat = fr) (hs : b.extractLsb' (e + m) 1 = 0#1) :
    Ideal.ieee e m b = if ex = 2 ^ e - 1 then (if fr = 0 then ⊤ else ⊥)
      else if ex = 0 then ((fr * (2 : ℝ) ^ (1 - (2 ^ (e - 1) - 1) - m : ℤ) : ℝ) : EReal)
      else (((2 ^ m + fr : ℕ) * (2 : ℝ) ^ ((ex : ℤ) - (2 ^ (e - 1) - 1) - m) : ℝ) : EReal) := by
  unfold Ideal.ieee
  have hn : (b.extractLsb' (e + m) 1 == 1#1) = false := by rw [hs]; rfl
  simp only [hx, hf, hn, Bool.false_eq_true, if_false, one_mul]

theorem f32_ieee (b : BitVec 32) : Ideal.ofBits .f32 b = Ideal.ieee 8 23 b := rfl
theorem bf16_ieee (b : BitVec 16) : Ideal.ofBits .bf16 b = Ideal.ieee 8 7 b := rfl

/-- A biased exponent shifted to its place: the exponent field is it, the other fields are zero. -/
theorem shifted_fields : ∀ k : Fin 256,
    ((IntOp.shli ArithUnit.vector (BitVec.ofNat 32 k.val) 23#32).extractLsb' 23 8).toNat = k.val ∧
    ((IntOp.shli ArithUnit.vector (BitVec.ofNat 32 k.val) 23#32).extractLsb' 0 23).toNat = 0 ∧
    (IntOp.shli ArithUnit.vector (BitVec.ofNat 32 k.val) 23#32).extractLsb' (8 + 23) 1 = 0#1 := by
  decide +kernel

/-- It denotes a power of two, -/
theorem pow2_bits (k : ℕ) (h : 1 ≤ k) (h' : k ≤ 254) :
    Ideal.ofBits .f32 (IntOp.shli ArithUnit.vector (BitVec.ofNat 32 k) 23#32) = (((2 : ℝ) ^ ((k : ℤ) - 127) : ℝ) : EReal) := by
  obtain ⟨ha, hb, hc⟩ := shifted_fields ⟨k, by omega⟩
  dsimp only at ha hb hc
  generalize IntOp.shli ArithUnit.vector (BitVec.ofNat 32 k) 23#32 = b at ha hb hc ⊢
  rw [f32_ieee, ieee_fields 8 23 _ k 0 ha hb hc, if_neg (by omega), if_neg (by omega)]
  have e : (2 : ℝ) ^ ((k : ℤ) - 127) = 2 ^ (23 : ℤ) * 2 ^ ((k : ℤ) - (2 ^ (8 - 1) - 1) - (23 : ℕ)) := by
    rw [← zpow_add₀ (by norm_num)]; congr 1; norm_num
  rw [e]; norm_num

/-- or infinity. -/
theorem top_bits : Ideal.ofBits .f32 (IntOp.shli ArithUnit.vector (BitVec.ofNat 32 255) 23#32) = ⊤ := by
  obtain ⟨ha, hb, hc⟩ := shifted_fields ⟨255, by omega⟩
  dsimp only at ha hb hc
  generalize IntOp.shli ArithUnit.vector (BitVec.ofNat 32 255) 23#32 = b at ha hb hc ⊢
  rw [f32_ieee, ieee_fields 8 23 _ 255 0 ha hb hc, if_pos (by norm_num), if_pos rfl]

theorem two_bits : Ideal.ofBits .f32 0x40000000#32 = ((2 : ℝ) : EReal) := by
  rw [show (0x40000000#32 : BitVec 32) = IntOp.shli ArithUnit.vector (BitVec.ofNat 32 128) 23#32 by decide,
    pow2_bits 128 (by omega) (by omega)]
  norm_num

theorem tiny_bits : Ideal.ofBits .f32 0x00800000#32 = (((2 : ℝ) ^ (-126 : ℤ) : ℝ) : EReal) := by
  rw [show (0x00800000#32 : BitVec 32) = IntOp.shli ArithUnit.vector (BitVec.ofNat 32 1) 23#32 by decide,
    pow2_bits 1 (by omega) (by omega)]
  norm_num

theorem inf_bits : Ideal.ofBits .f32 0x7F800000#32 = ⊤ := by
  rw [show (0x7F800000#32 : BitVec 32) = IntOp.shli ArithUnit.vector (BitVec.ofNat 32 255) 23#32 by decide, top_bits]

/-- The constant near 1/448. -/
def q448 : ℝ := 9586981 * (2 : ℝ) ^ (-32 : ℤ)

theorem q448_bits : Ideal.ofBits .f32 0x3B124925#32 = (q448 : EReal) := by
  rw [f32_ieee, ieee_fields 8 23 _ 118 1198373 (by decide) (by decide) (by decide), if_neg (by omega), if_neg (by omega)]
  unfold q448
  congr 1

theorem q448_pos : 0 < q448 := by unfold q448; positivity

/-- The greatest finite bf16. -/
theorem max_bits : Ideal.ofBits .bf16 0x7F7F#16 = ((255 * (2 : ℝ) ^ (120 : ℤ) : ℝ) : EReal) := by
  rw [bf16_ieee, ieee_fields 8 7 _ 254 127 (by decide) (by decide) (by decide), if_neg (by omega), if_neg (by omega)]
  congr 1

theorem inf_bits_bf16 : Ideal.ofBits .bf16 0x7F80#16 = ⊤ := by
  rw [bf16_ieee, ieee_fields 8 7 _ 255 0 (by decide) (by decide) (by decide), if_pos (by norm_num), if_pos rfl]

/-! ## The count is the exponent field -/

/-- A sum of bits counts them. -/
theorem fold_count {ι : Type} [DecidableEq ι] (s : Finset ι) (p : ι → Prop) [DecidablePred p] :
    s.fold IntOp.addi 0#32 (fun x => BitVec.setWidth 32 (BitVec.ofBool (decide (p x)))) = BitVec.ofNat 32 (s.filter p).card := by
  induction s using Finset.induction_on with
  | empty => simp
  | insert a s ha ih =>
    rw [Finset.fold_insert ha, ih, Finset.filter_insert]
    by_cases h : p a
    · rw [if_pos h, Finset.card_insert_of_notMem (by simp [ha])]
      simp only [h, decide_true]
      rw [Nat.add_comm, BitVec.ofNat_add]; rfl
    · rw [if_neg h]
      simp only [h, decide_false]
      show (0#32 : BitVec 32) + _ = _
      simp

theorem card_below : ∀ m : Fin 256, (Finset.univ.filter fun x : Fin 255 => x.val < m.val).card = m.val := by
  decide +kernel

/-- Where exactly the first `m` thresholds are reached the field is `m`. -/
theorem kField_count (y : EReal) (m : ℕ) (hm : m ≤ 255)
    (h : ∀ x : Fin 255, Ideal.ofBits .f32 (IntOp.shli ArithUnit.vector (BitVec.ofNat 32 (x.val + 1)) 23#32) ≤ y ↔ x.val < m) :
    kField y = BitVec.ofNat 32 m := by
  unfold kField
  classical
  rw [fold_count Finset.univ]
  have e : ∀ x : Fin 255, IntOp.addi (BitVec.ofNat 32 x.val) 1#32 = BitVec.ofNat 32 (x.val + 1) := fun x => by
    rw [BitVec.ofNat_add]; rfl
  rw [Finset.filter_congr (q := fun x : Fin 255 => x.val < m) fun x _ => by rw [e]; exact h x]
  congr 1
  exact card_below ⟨m, by omega⟩

/-- A number between two successive powers of two has the lower one's biased exponent; below the least one, zero. -/
theorem kField_real (r : ℝ) (m : ℕ) (hm : m ≤ 254) (lo : m = 0 ∨ (2 : ℝ) ^ ((m : ℤ) - 127) ≤ r) (hi : r < (2 : ℝ) ^ ((m : ℤ) - 126)) :
    kField (r : EReal) = BitVec.ofNat 32 m := by
  refine kField_count _ m (by omega) fun x => ?_
  by_cases hx : x.val = 254
  · rw [hx, top_bits]
    constructor
    · intro h; exact absurd (top_le_iff.1 h) (EReal.coe_ne_top r)
    · intro h; omega
  · rw [pow2_bits _ (by omega) (by omega), EReal.coe_le_coe_iff]
    constructor
    · intro h
      have := (zpow_lt_zpow_iff_right₀ (by norm_num : (1 : ℝ) < 2)).1 (h.trans_lt hi)
      omega
    · intro h
      rcases lo with rfl | lo
      · omega
      · refine le_trans ?_ lo
        exact zpow_le_zpow_right₀ (by norm_num) (by omega)

theorem kField_top : kField ⊤ = 255#32 :=
  kField_count ⊤ 255 le_rfl fun x => ⟨fun _ => x.isLt, fun _ => le_top⟩

/-! ## The scale's bits -/

/-- The exponent, shifted by the bias: from the field. -/
theorem expo_fields : ∀ m : Fin 256,
    IntOp.addi (Scalar.select (IntOp.ori (IntOp.cmpi .eq (BitVec.ofNat 32 m.val) 0#32) (IntOp.cmpi .eq (BitVec.ofNat 32 m.val) 255#32)) 0#32
      (IntOp.subi (BitVec.ofNat 32 m.val) 126#32)) 127#32 = BitVec.ofNat 32 (if m.val = 0 ∨ m.val = 255 then 127 else m.val + 1) ∧
    (m.val ≤ 252 ∨ m.val = 255 → IntOp.subi 127#32 (Scalar.select (IntOp.ori (IntOp.cmpi .eq (BitVec.ofNat 32 m.val) 0#32) (IntOp.cmpi .eq (BitVec.ofNat 32 m.val) 255#32)) 0#32
      (IntOp.subi (BitVec.ofNat 32 m.val) 126#32)) = BitVec.ofNat 32 (if m.val = 0 ∨ m.val = 255 then 127 else 253 - m.val)) := by
  decide +kernel

/-- The scale and its inverse are one where the field is at an end, -/
theorem k_end (a : EReal) (m : ℕ) (hm : m = 0 ∨ m = 255) (h : kField (lev a) = BitVec.ofNat 32 m) : kScale a = 1 ∧ kInv a = 1 := by
  obtain ⟨h1, h2⟩ := expo_fields ⟨m, by omega⟩
  have h2 := h2 (by simp only; omega)
  simp only [hm, if_true] at h1 h2
  have one := pow2_bits 127 (by omega) (by omega)
  norm_num at one
  unfold kScale kInv kExpo
  rw [h, h1, h2]
  exact ⟨one, one⟩

/-- and powers of two elsewhere. -/
theorem k_mid (a : EReal) (m : ℕ) (h0 : 1 ≤ m) (hm : m ≤ 252) (h : kField (lev a) = BitVec.ofNat 32 m) :
    kScale a = (((2 : ℝ) ^ ((m : ℤ) - 126) : ℝ) : EReal) ∧ kInv a = (((2 : ℝ) ^ (126 - (m : ℤ)) : ℝ) : EReal) := by
  obtain ⟨h1, h2⟩ := expo_fields ⟨m, by omega⟩
  have h2 := h2 (by simp only; omega)
  have hne : ¬(m = 0 ∨ m = 255) := by omega
  simp only [hne, if_false] at h1 h2
  unfold kScale kInv kExpo
  rw [h, h1, h2, pow2_bits _ (by omega) (by omega), pow2_bits _ (by omega) (by omega)]
  constructor
  · congr 2; push_cast; ring
  · congr 2; rw [Nat.cast_sub (by omega)]; push_cast; ring

/-! ## The reference's scale -/

theorem pow_int (n : ℤ) : Ideal.pow (Ideal.ofBits .f32 0x40000000#32) (((n : ℝ) : ℝ) : EReal) = (((2 : ℝ) ^ n : ℝ) : EReal) := by
  rw [two_bits]
  show ((Real.rpow 2 (n : ℝ) : ℝ) : EReal) = _
  congr 1
  exact Real.rpow_intCast 2 n

/-- An integer exponent gives a power of two and its inverse. -/
theorem r_of_expo (a : EReal) (n : ℤ) (h : rExpo a = ((n : ℝ) : EReal)) :
    rScale a = (((2 : ℝ) ^ n : ℝ) : EReal) ∧ rInv a = (((2 : ℝ) ^ (-n) : ℝ) : EReal) := by
  unfold rScale rInv
  rw [h]
  refine ⟨pow_int n, ?_⟩
  rw [← pow_int, zero_sub, Int.cast_neg, EReal.coe_neg]

theorem r_zero (a : EReal) (h : rExpo a = 0) : rScale a = 1 ∧ rInv a = 1 := by
  have := r_of_expo a 0 (by rw [h]; simp)
  simpa using this

/-- The floor of the logarithm to base two. -/
theorem floor_log (r : ℝ) (n : ℤ) (lo : (2 : ℝ) ^ n ≤ r) (hi : r < (2 : ℝ) ^ (n + 1)) : ⌊Real.log r * (Real.log 2)⁻¹⌋ = n := by
  have h2 : 0 < Real.log 2 := Real.log_pos (by norm_num)
  have hr : 0 < r := lt_of_lt_of_le (by positivity) lo
  rw [← div_eq_mul_inv, Int.floor_eq_iff]
  constructor
  · rw [le_div_iff₀ h2, ← Real.log_zpow]
    exact Real.log_le_log (by positivity) lo
  · rw [div_lt_iff₀ h2]
    have := Real.log_lt_log hr hi
    rw [Real.log_zpow] at this
    push_cast at this
    exact this

/-- The reference's exponent of a level between two powers of two. -/
theorem rExpo_mid (a : EReal) (ha : a ≠ 0) (r : ℝ) (hr : lev a = (r : EReal)) (n : ℤ) (hn : -126 ≤ n) (lo : (2 : ℝ) ^ n ≤ r)
    (hi : r < (2 : ℝ) ^ (n + 1)) : rExpo a = (((n + 1 : ℤ) : ℝ) : EReal) := by
  have hr0 : 0 < r := lt_of_lt_of_le (by positivity) lo
  have h2 : 0 < Real.log 2 := Real.log_pos (by norm_num)
  unfold rExpo
  rw [if_neg ha, hr, tiny_bits, inf_bits, two_bits]
  have t1 : ¬ ((r : EReal) < (((2 : ℝ) ^ (-126 : ℤ) : ℝ) : EReal)) := by
    rw [EReal.coe_lt_coe_iff, not_lt]
    exact le_trans (zpow_le_zpow_right₀ (by norm_num) hn) lo
  have t2 : ¬ ((r : EReal) = ⊤) := EReal.coe_ne_top r
  have l1 : Ideal.log (r : EReal) = ((Real.log r : ℝ) : EReal) := by
    show (if r ≤ 0 then (⊥ : EReal) else (Real.log r : EReal)) = _
    rw [if_neg (not_le.2 hr0)]
  have l2 : Ideal.log ((2 : ℝ) : EReal) = ((Real.log 2 : ℝ) : EReal) := by
    show (if (2 : ℝ) ≤ 0 then (⊥ : EReal) else (Real.log 2 : EReal)) = _
    rw [if_neg (by norm_num)]
  have d : Ideal.div ((Real.log r : ℝ) : EReal) ((Real.log 2 : ℝ) : EReal) = ((Real.log r * (Real.log 2)⁻¹ : ℝ) : EReal) := by
    unfold Ideal.div
    rw [if_neg (by rw [EReal.coe_eq_zero]; exact h2.ne'), ← EReal.coe_inv, ← EReal.coe_mul]
  simp only [t1, t2, decide_false]
  rw [l1, l2, d]
  show ((⌊Real.log r * (Real.log 2)⁻¹⌋ : ℝ) : EReal) + 1 = _
  rw [floor_log r n lo hi]
  push_cast
  rfl

/-- The reference's exponent of a level below the least normal number. -/
theorem rExpo_tiny (a : EReal) (h : lev a < (((2 : ℝ) ^ (-126 : ℤ) : ℝ) : EReal)) : rExpo a = 0 := by
  unfold rExpo
  split
  · rfl
  · rw [tiny_bits]
    simp only [h, decide_true]
    unfold Scalar.select IntOp.ori
    cases decide (lev a = Ideal.ofBits .f32 0x7F800000#32) <;> simp

theorem rExpo_top : rExpo ⊤ = 0 := by
  unfold rExpo
  split
  · rfl
  · rw [inf_bits]
    have : lev ⊤ = ⊤ := by unfold lev; rw [q448_bits]; exact EReal.top_mul_coe_of_pos q448_pos
    simp only [this, decide_true]
    unfold Scalar.select IntOp.ori
    cases decide ((⊤ : EReal) < Ideal.ofBits .f32 0x00800000#32) <;> simp

/-! ## The two ways agree -/

/-- The magnitudes a bf16 entry has. -/
def IsBf16Mag (a : EReal) : Prop := a ≤ Ideal.ofBits .bf16 0x7F7F#16 ∨ a = ⊤

/-- On a magnitude of a bf16 entry the kernel's scale and inverse are the reference's. -/
theorem ways_agree (a : EReal) (h0 : 0 ≤ a) (h : IsBf16Mag a) : kInv a = rInv a ∧ kScale a = rScale a := by
  rcases h with h | rfl
  swap
  · have hl : lev ⊤ = ⊤ := by unfold lev; rw [q448_bits]; exact EReal.top_mul_coe_of_pos q448_pos
    obtain ⟨k1, k2⟩ := k_end ⊤ 255 (.inr rfl) (by rw [hl, kField_top])
    obtain ⟨r1, r2⟩ := r_zero ⊤ rExpo_top
    rw [k1, k2, r1, r2]; exact ⟨rfl, rfl⟩
  rw [max_bits] at h
  lift a to ℝ using ⟨fun e => by rw [e] at h; exact absurd (top_le_iff.1 h) (EReal.coe_ne_top _),
    fun e => by rw [e] at h0; exact absurd (le_bot_iff.1 h0) (by simp)⟩
  rw [EReal.coe_le_coe_iff] at h
  rw [EReal.coe_nonneg] at h0
  have hl : lev (a : EReal) = ((a * q448 : ℝ) : EReal) := by unfold lev; rw [q448_bits, EReal.coe_mul]
  by_cases ht : a * q448 < (2 : ℝ) ^ (-126 : ℤ)
  · obtain ⟨k1, k2⟩ := k_end a 0 (.inl rfl) (by rw [hl]; exact kField_real _ 0 (by omega) (.inl rfl) (by simpa using ht))
    obtain ⟨r1, r2⟩ := r_zero a (rExpo_tiny _ (by rw [hl, EReal.coe_lt_coe_iff]; exact ht))
    rw [k1, k2, r1, r2]; exact ⟨rfl, rfl⟩
  · rw [not_lt] at ht
    have hpos : 0 < a * q448 := lt_of_lt_of_le (by positivity) ht
    obtain ⟨n, lo, hi⟩ := exists_mem_Ico_zpow hpos (by norm_num : (1 : ℝ) < 2)
    have hb : a * q448 < (2 : ℝ) ^ (120 : ℤ) := by
      calc a * q448 ≤ 255 * (2 : ℝ) ^ (120 : ℤ) * q448 := mul_le_mul_of_nonneg_right h q448_pos.le
        _ < (2 : ℝ) ^ (120 : ℤ) := by unfold q448; norm_num
    have n1 : -126 < n + 1 := (zpow_lt_zpow_iff_right₀ (by norm_num : (1 : ℝ) < 2)).1 (ht.trans_lt hi)
    have n2 : n < 120 := (zpow_lt_zpow_iff_right₀ (by norm_num : (1 : ℝ) < 2)).1 (lo.trans_lt hb)
    obtain ⟨m, hm⟩ : ∃ m : ℕ, (m : ℤ) = n + 127 := ⟨(n + 127).toNat, by omega⟩
    have hn : n = (m : ℤ) - 127 := by omega
    have hn1 : n + 1 = (m : ℤ) - 126 := by omega
    obtain ⟨k1, k2⟩ := k_mid a m (by omega) (by omega) (by
      rw [hl]; exact kField_real _ m (by omega) (.inr (by rw [← hn]; exact lo)) (by rw [← hn1]; exact hi))
    obtain ⟨r1, r2⟩ := r_of_expo a (n + 1) (rExpo_mid a
      (by intro e; rw [EReal.coe_eq_zero] at e; rw [e] at hpos; simp at hpos) _ hl n (by omega) lo hi)
    rw [k1, k2, r1, r2, hn1]
    exact ⟨by congr 2; ring, rfl⟩

/-- A group's greatest magnitude is not negative, -/
theorem peak_nonneg (f : Fin 128 → EReal) : 0 ≤ peak f := by
  unfold peak
  rw [Finset.le_fold_max]
  refine .inr ⟨0, Finset.mem_univ _, ?_⟩
  rcases le_total 0 (f 0) with h | h
  · exact le_max_of_le_left h
  · exact le_max_of_le_right (EReal.neg_nonneg.2 h)

/-- and is an entry's magnitude. -/
theorem peak_mag (f : Fin 128 → EReal) (h : ∀ k, IsBf16Mag (max (f k) (-(f k)))) : IsBf16Mag (peak f) := by
  by_cases ht : ∃ k, max (f k) (-(f k)) = ⊤
  · obtain ⟨k, hk⟩ := ht
    refine .inr (top_le_iff.1 ?_)
    unfold peak
    rw [Finset.le_fold_max]
    exact .inr ⟨k, Finset.mem_univ _, hk.ge⟩
  · refine .inl ?_
    unfold peak
    rw [Finset.fold_max_le]
    exact ⟨bot_le, fun k _ => (h k).resolve_right fun e => ht ⟨k, e⟩⟩

end Cert.Quant
-- ==== Proof.Entries.lean ====
/- What the precondition says of the operands' entries, and that under it the two ways to the scales agree on them. -/
module

public import proofs.«01_k».proof.Proof.Scalar
public import proofs.«01_k».proof.Proof.Gen.Pre_bf16_values
public import Idealize.ShloMosaic.Lib.ReduceAll

@[expose] public section

noncomputable section

namespace Cert.Quant

open Idealize.ShloMosaic

theorem mag_of_bits (v : EReal)
    (h : IntOp.ori (Ideal.cmp .ole (max v (-v)) (Ideal.ofBits .bf16 0x7F7F#16)) (Ideal.cmp .oeq (max v (-v)) (Ideal.ofBits .bf16 0x7F80#16)) = 1#1) :
    IsBf16Mag (max v (-v)) := by
  rw [inf_bits_bf16] at h
  by_cases h1 : max v (-v) ≤ Ideal.ofBits .bf16 0x7F7F#16
  · exact .inl h1
  · by_cases h2 : max v (-v) = ⊤
    · exact .inr h2
    · simp only [Ideal.cmp, h1, h2, decide_false] at h
      exact absurd h (by decide)

/-- The entries of both operands are bf16 magnitudes. -/
theorem entries (x : (Arr 1152).Idx → EReal) (d : (Arr 4352).Idx → EReal)
    (h : Cert.Pre_bf16_values.fn (F := Ideal) x d = fun _ => 1#1) :
    (∀ i, IsBf16Mag (max (x i) (-(x i)))) ∧ ∀ i, IsBf16Mag (max (d i) (-(d i))) := by
  haveI : Subsingleton Cert.Pre_bf16_values.S_.Idx := ⟨fun a b => funext fun k => k.elim0⟩
  have e := congrFun h (fun k => k.elim0)
  unfold Cert.Pre_bf16_values.fn at e
  obtain ⟨e1, e2⟩ := IntOp.andi_eq_one.1 e
  exact ⟨fun i => mag_of_bits _ (Host.reduce_andi_all _ _ _ _ _ e1 i), fun i => mag_of_bits _ (Host.reduce_andi_all _ _ _ _ _ e2 i)⟩

variable {n : ℕ}

theorem agree_on (x : (Arr n).Idx → EReal) (h : ∀ i, IsBf16Mag (max (x i) (-(x i)))) (b : Fin 6) (g : Fin 2) (c : Fin n) :
    kInv (peak (col x b g c)) = rInv (peak (col x b g c)) ∧ kScale (peak (col x b g c)) = rScale (peak (col x b g c)) :=
  ways_agree _ (peak_nonneg _) (peak_mag _ fun _ => h _)

end Cert.Quant
-- ==== Proof.lean ====
module

public import proofs.«01_k».proof.Defs
public import proofs.«01_k».proof.Proof.Gen.Kernel
public import proofs.«01_k».proof.Proof.SameKernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_bf16_values
public import proofs.«01_k».proof.Proof.KernelResults
public import proofs.«01_k».proof.Proof.RefResults
public import proofs.«01_k».proof.Proof.Entries
public import Idealize.ShloMosaic.Adequacy
public import Idealize.ShloMosaic.Init

@[expose] public section

noncomputable section

namespace Cert.Proof

open Idealize.ShloMosaic Idealize.SL.Sem Cert.Kernel

/-- On operands whose entries a bf16 can have, the reference's results are the kernel's. -/
theorem value : Cert.algebraic_KernelIdeal_ReferenceIdeal_pre_bf16_values := by
  intro m g m' g' hpre hargs
  have hx : ∀ c, Cert.ReferenceIdeal.Reads.opX m' c = Cert.KernelIdeal.Run.opX m c := fun c => (hargs c).1
  have hd : ∀ c, Cert.ReferenceIdeal.Reads.opD m' c = Cert.KernelIdeal.Run.opD m c := fun c => (hargs c).2
  have ex := fun c => Cert.Quant.entries (Cert.KernelIdeal.Run.opX m c) (Cert.KernelIdeal.Run.opD m c) (hpre c)
  have ax := fun c b k i => Cert.Quant.agree_on (Cert.KernelIdeal.Run.opX m c) (ex c).1 b k i
  have ad := fun c b k i => Cert.Quant.agree_on (Cert.KernelIdeal.Run.opD m c) (ex c).2 b k i
  refine ⟨_, _, _, _, _, Cert.KernelIdeal.Run.run_results m g, ?_⟩
  refine (θ_run Cert.ReferenceIdeal.defs _ _).mono (fun _ h c => ?_) (Cert.ReferenceIdeal.Reads.run_results m' g')
  obtain ⟨h0, h1, h2, h3, h4, h5, h6⟩ := h c
  rw [hx, hd] at h0
  rw [hx] at h1 h2
  rw [hd] at h3 h4
  refine ⟨h0.trans ?_, h1.trans ?_, h2.trans ?_, h3.trans ?_, h4.trans ?_, h5, h6⟩
  · funext j
    exact (Cert.Quant.dwAt_congr _ _ (fun b k i => (ax c b k i).1) (fun b k i => (ax c b k i).2)
      (fun b k i => (ad c b k i).1) (fun b k i => (ad c b k i).2) _ _).symm
  · funext j
    exact (Cert.Quant.codeAt_congr _ (fun b k i => (ax c b k i).1) _ _ _).symm
  · funext j
    exact (Cert.Quant.scaleAt_congr _ (fun b k i => (ax c b k i).2) _ _ _).symm
  · funext j
    exact (Cert.Quant.codeAt_congr _ (fun b k i => (ad c b k i).1) _ _ _).symm
  · funext j
    exact (Cert.Quant.scaleAt_congr _ (fun b k i => (ad c b k i).2) _ _ _).symm

theorem claim : Cert.Claim :=
  ⟨Cert.Kernel.Gen.facts, Cert.KernelIdeal.Gen.facts, Cert.ReferenceIdeal.Gen.facts, Cert.Pre_bf16_values.Gen.facts,
    Cert.Kernel.Run.frame,
    fun m ρ _ => Cert.KernelIdeal.Run.frame_main m ρ,
    fun m ρ _ => Cert.KernelIdeal.Run.frame_main m ρ,
    fun m ρ _ => Cert.ReferenceIdeal.Gen.frame m ρ,
    fun m ρ _ => Cert.ReferenceIdeal.Gen.frame m ρ,
    trivial,
    value⟩

end Cert.Proof

end
